-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S256x4096 : Shape := ⟨2, ![256, 4096]⟩
abbrev S4 : Shape := ⟨1, ![4]⟩
abbrev S2 : Shape := ⟨1, ![2]⟩
abbrev S8 : Shape := ⟨1, ![8]⟩
abbrev S_ : Shape := ⟨0, ![]⟩
abbrev S1 : Shape := ⟨1, ![1]⟩
abbrev S256x256 : Shape := ⟨2, ![256, 256]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x4096, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .f32⟩
  | .local _ .vmem, ⟨4, _⟩ => ⟨S256x4096, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_15 : BitVec 32 := 16#32
  let v28 : BitVec 32 := Scalar.muli v11 c16_i32_15
  let v29 : BitVec 32 := Scalar.addi c0_i32 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v30 : BitVec 32 := Scalar.muli v5 c4_i32_16
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v32 : BitVec 32 := Scalar.muli v8 c1_i32_17
  let v33 : BitVec 32 := Scalar.addi v31 v32
  v33.toNat
def k0_dev2 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v34 : BitVec 32 := Scalar.muli v2 c16_i32_19
  let v35 : BitVec 32 := Scalar.addi c0_i32_20 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_21 : BitVec 32 := 4#32
  let v36 : BitVec 32 := Scalar.muli v14 c4_i32_21
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v38 : BitVec 32 := Scalar.muli v8 c1_i32_22
  let v39 : BitVec 32 := Scalar.addi v37 v38
  v39.toNat
def k0_dev3 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v40 : BitVec 32 := Scalar.muli v2 c16_i32_24
  let v41 : BitVec 32 := Scalar.addi c0_i32_25 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v42 : BitVec 32 := Scalar.muli v5 c4_i32_26
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_27 : BitVec 32 := 1#32
  let v44 : BitVec 32 := Scalar.muli v17 c1_i32_27
  let v45 : BitVec 32 := Scalar.addi v43 v44
  v45.toNat
def k0_off1 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_28 : BitVec 32 := 256#32
  let v47 : BitVec 32 := Scalar.muli v19 c256_i32_28
  let c0_i32_37 : BitVec 32 := 0#32
  ![v47.toNat, 0]
def k0_off2 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_42 : BitVec 32 := 256#32
  let v62 : BitVec 32 := Scalar.muli v19 c256_i32_42
  let v63 : Index := Scalar.indexCast v62
  let c0 : Index := 0#32
  ![v63.toNat, 0]
def k0_off3 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_30 : BitVec 32 := 256#32
  let v49 : BitVec 32 := Scalar.muli v20 c256_i32_30
  let c0_i32_64 : BitVec 32 := 0#32
  ![v49.toNat, 0]
def k0_off4 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_74 : BitVec 32 := 256#32
  let v97 : BitVec 32 := Scalar.muli v19 c256_i32_74
  let v98 : Index := Scalar.indexCast v97
  let c0_75 : Index := 0#32
  ![v98.toNat, 0]
def k0_off5 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_80 : BitVec 32 := 256#32
  let v109 : BitVec 32 := Scalar.muli v19 c256_i32_80
  let c0_i32_87 : BitVec 32 := 0#32
  ![v109.toNat, 0]
def k0_dev4 (d0 : Dev nD) : Nat :=
  let c0_i32_84 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_83 : BitVec 32 := 16#32
  let v110 : BitVec 32 := Scalar.muli v11 c16_i32_83
  let v111 : BitVec 32 := Scalar.addi c0_i32_84 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v112 : BitVec 32 := Scalar.muli v5 c4_i32_85
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v114 : BitVec 32 := Scalar.muli v8 c1_i32_86
  let v115 : BitVec 32 := Scalar.addi v113 v114
  v115.toNat
def k0_dev5 (d0 : Dev nD) : Nat :=
  let c0_i32_94 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_93 : BitVec 32 := 16#32
  let v124 : BitVec 32 := Scalar.muli v2 c16_i32_93
  let v125 : BitVec 32 := Scalar.addi c0_i32_94 v124
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_95 : BitVec 32 := 4#32
  let v126 : BitVec 32 := Scalar.muli v14 c4_i32_95
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v128 : BitVec 32 := Scalar.muli v8 c1_i32_96
  let v129 : BitVec 32 := Scalar.addi v127 v128
  v129.toNat
def k0_dev6 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v138 : BitVec 32 := Scalar.muli v2 c16_i32_103
  let v139 : BitVec 32 := Scalar.addi c0_i32_104 v138
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v140 : BitVec 32 := Scalar.muli v5 c4_i32_105
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_106 : BitVec 32 := 1#32
  let v142 : BitVec 32 := Scalar.muli v17 c1_i32_106
  let v143 : BitVec 32 := Scalar.addi v141 v142
  v143.toNat
def k0_off6 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_122 : BitVec 32 := 256#32
  let v162 : BitVec 32 := Scalar.muli v19 c256_i32_122
  let v163 : Index := Scalar.indexCast v162
  let c256_123 : Index := 256#32
  ![v163.toNat, 256]
def k0_off7 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_127 : BitVec 32 := 256#32
  let v174 : BitVec 32 := Scalar.muli v19 c256_i32_127
  let c256_i32_134 : BitVec 32 := 256#32
  ![v174.toNat, 256]
def k0_dev7 (d0 : Dev nD) : Nat :=
  let c0_i32_131 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_130 : BitVec 32 := 16#32
  let v175 : BitVec 32 := Scalar.muli v11 c16_i32_130
  let v176 : BitVec 32 := Scalar.addi c0_i32_131 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v177 : BitVec 32 := Scalar.muli v5 c4_i32_132
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v179 : BitVec 32 := Scalar.muli v8 c1_i32_133
  let v180 : BitVec 32 := Scalar.addi v178 v179
  v180.toNat
def k0_dev8 (d0 : Dev nD) : Nat :=
  let c0_i32_141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_140 : BitVec 32 := 16#32
  let v189 : BitVec 32 := Scalar.muli v2 c16_i32_140
  let v190 : BitVec 32 := Scalar.addi c0_i32_141 v189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_142 : BitVec 32 := 4#32
  let v191 : BitVec 32 := Scalar.muli v14 c4_i32_142
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v193 : BitVec 32 := Scalar.muli v8 c1_i32_143
  let v194 : BitVec 32 := Scalar.addi v192 v193
  v194.toNat
def k0_dev9 (d0 : Dev nD) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v203 : BitVec 32 := Scalar.muli v2 c16_i32_149
  let v204 : BitVec 32 := Scalar.addi c0_i32_150 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_151 : BitVec 32 := 4#32
  let v205 : BitVec 32 := Scalar.muli v5 c4_i32_151
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_152 : BitVec 32 := 1#32
  let v207 : BitVec 32 := Scalar.muli v17 c1_i32_152
  let v208 : BitVec 32 := Scalar.addi v206 v207
  v208.toNat
def k0_off8 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_168 : BitVec 32 := 256#32
  let v227 : BitVec 32 := Scalar.muli v19 c256_i32_168
  let v228 : Index := Scalar.indexCast v227
  let c512_169 : Index := 512#32
  ![v228.toNat, 512]
def k0_off9 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_173 : BitVec 32 := 256#32
  let v239 : BitVec 32 := Scalar.muli v19 c256_i32_173
  let c512_i32_180 : BitVec 32 := 512#32
  ![v239.toNat, 512]
def k0_dev10 (d0 : Dev nD) : Nat :=
  let c0_i32_177 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_176 : BitVec 32 := 16#32
  let v240 : BitVec 32 := Scalar.muli v11 c16_i32_176
  let v241 : BitVec 32 := Scalar.addi c0_i32_177 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v242 : BitVec 32 := Scalar.muli v5 c4_i32_178
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v244 : BitVec 32 := Scalar.muli v8 c1_i32_179
  let v245 : BitVec 32 := Scalar.addi v243 v244
  v245.toNat
def k0_dev11 (d0 : Dev nD) : Nat :=
  let c0_i32_187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_186 : BitVec 32 := 16#32
  let v254 : BitVec 32 := Scalar.muli v2 c16_i32_186
  let v255 : BitVec 32 := Scalar.addi c0_i32_187 v254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_188 : BitVec 32 := 4#32
  let v256 : BitVec 32 := Scalar.muli v14 c4_i32_188
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v258 : BitVec 32 := Scalar.muli v8 c1_i32_189
  let v259 : BitVec 32 := Scalar.addi v257 v258
  v259.toNat
def k0_dev12 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v268 : BitVec 32 := Scalar.muli v2 c16_i32_195
  let v269 : BitVec 32 := Scalar.addi c0_i32_196 v268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_197 : BitVec 32 := 4#32
  let v270 : BitVec 32 := Scalar.muli v5 c4_i32_197
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_198 : BitVec 32 := 1#32
  let v272 : BitVec 32 := Scalar.muli v17 c1_i32_198
  let v273 : BitVec 32 := Scalar.addi v271 v272
  v273.toNat
def k0_off10 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_214 : BitVec 32 := 256#32
  let v292 : BitVec 32 := Scalar.muli v19 c256_i32_214
  let v293 : Index := Scalar.indexCast v292
  let c768_215 : Index := 768#32
  ![v293.toNat, 768]
def k0_off11 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_219 : BitVec 32 := 256#32
  let v304 : BitVec 32 := Scalar.muli v19 c256_i32_219
  let c768_i32_226 : BitVec 32 := 768#32
  ![v304.toNat, 768]
def k0_dev13 (d0 : Dev nD) : Nat :=
  let c0_i32_223 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_222 : BitVec 32 := 16#32
  let v305 : BitVec 32 := Scalar.muli v11 c16_i32_222
  let v306 : BitVec 32 := Scalar.addi c0_i32_223 v305
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v307 : BitVec 32 := Scalar.muli v5 c4_i32_224
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v309 : BitVec 32 := Scalar.muli v8 c1_i32_225
  let v310 : BitVec 32 := Scalar.addi v308 v309
  v310.toNat
def k0_dev14 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v319 : BitVec 32 := Scalar.muli v2 c16_i32_232
  let v320 : BitVec 32 := Scalar.addi c0_i32_233 v319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_234 : BitVec 32 := 4#32
  let v321 : BitVec 32 := Scalar.muli v14 c4_i32_234
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v323 : BitVec 32 := Scalar.muli v8 c1_i32_235
  let v324 : BitVec 32 := Scalar.addi v322 v323
  v324.toNat
def k0_dev15 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v333 : BitVec 32 := Scalar.muli v2 c16_i32_241
  let v334 : BitVec 32 := Scalar.addi c0_i32_242 v333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v335 : BitVec 32 := Scalar.muli v5 c4_i32_243
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_244 : BitVec 32 := 1#32
  let v337 : BitVec 32 := Scalar.muli v17 c1_i32_244
  let v338 : BitVec 32 := Scalar.addi v336 v337
  v338.toNat
def k0_off12 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_250 : BitVec 32 := 256#32
  let v349 : BitVec 32 := Scalar.muli v20 c256_i32_250
  let v350 : Index := Scalar.indexCast v349
  let c0_251 : Index := 0#32
  ![v350.toNat, 0]
def k0_off13 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_259 : BitVec 32 := 256#32
  let v359 : BitVec 32 := Scalar.muli v20 c256_i32_259
  let v360 : Index := Scalar.indexCast v359
  let c0_260 : Index := 0#32
  ![v360.toNat, 0]
def k0_off14 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_264 : BitVec 32 := 256#32
  let v371 : BitVec 32 := Scalar.muli v20 c256_i32_264
  let c0_i32_271 : BitVec 32 := 0#32
  ![v371.toNat, 0]
def k0_dev16 (d0 : Dev nD) : Nat :=
  let c0_i32_268 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_267 : BitVec 32 := 16#32
  let v372 : BitVec 32 := Scalar.muli v11 c16_i32_267
  let v373 : BitVec 32 := Scalar.addi c0_i32_268 v372
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_269 : BitVec 32 := 4#32
  let v374 : BitVec 32 := Scalar.muli v5 c4_i32_269
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v376 : BitVec 32 := Scalar.muli v8 c1_i32_270
  let v377 : BitVec 32 := Scalar.addi v375 v376
  v377.toNat
def k0_dev17 (d0 : Dev nD) : Nat :=
  let c0_i32_288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_287 : BitVec 32 := 16#32
  let v398 : BitVec 32 := Scalar.muli v2 c16_i32_287
  let v399 : BitVec 32 := Scalar.addi c0_i32_288 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_289 : BitVec 32 := 4#32
  let v400 : BitVec 32 := Scalar.muli v14 c4_i32_289
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v402 : BitVec 32 := Scalar.muli v8 c1_i32_290
  let v403 : BitVec 32 := Scalar.addi v401 v402
  v403.toNat
def k0_dev18 (d0 : Dev nD) : Nat :=
  let c0_i32_298 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_297 : BitVec 32 := 16#32
  let v412 : BitVec 32 := Scalar.muli v2 c16_i32_297
  let v413 : BitVec 32 := Scalar.addi c0_i32_298 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_299 : BitVec 32 := 4#32
  let v414 : BitVec 32 := Scalar.muli v5 c4_i32_299
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_300 : BitVec 32 := 1#32
  let v416 : BitVec 32 := Scalar.muli v17 c1_i32_300
  let v417 : BitVec 32 := Scalar.addi v415 v416
  v417.toNat
def k0_off15 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_314 : BitVec 32 := 256#32
  let v440 : BitVec 32 := Scalar.muli v20 c256_i32_314
  let v441 : Index := Scalar.indexCast v440
  let c256_315 : Index := 256#32
  ![v441.toNat, 256]
def k0_off16 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_319 : BitVec 32 := 256#32
  let v452 : BitVec 32 := Scalar.muli v20 c256_i32_319
  let c256_i32_326 : BitVec 32 := 256#32
  ![v452.toNat, 256]
def k0_dev19 (d0 : Dev nD) : Nat :=
  let c0_i32_323 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_322 : BitVec 32 := 16#32
  let v453 : BitVec 32 := Scalar.muli v11 c16_i32_322
  let v454 : BitVec 32 := Scalar.addi c0_i32_323 v453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_324 : BitVec 32 := 4#32
  let v455 : BitVec 32 := Scalar.muli v5 c4_i32_324
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v457 : BitVec 32 := Scalar.muli v8 c1_i32_325
  let v458 : BitVec 32 := Scalar.addi v456 v457
  v458.toNat
def k0_dev20 (d0 : Dev nD) : Nat :=
  let c0_i32_343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_342 : BitVec 32 := 16#32
  let v479 : BitVec 32 := Scalar.muli v2 c16_i32_342
  let v480 : BitVec 32 := Scalar.addi c0_i32_343 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_344 : BitVec 32 := 4#32
  let v481 : BitVec 32 := Scalar.muli v14 c4_i32_344
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v483 : BitVec 32 := Scalar.muli v8 c1_i32_345
  let v484 : BitVec 32 := Scalar.addi v482 v483
  v484.toNat
def k0_dev21 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_352 : BitVec 32 := 16#32
  let v493 : BitVec 32 := Scalar.muli v2 c16_i32_352
  let v494 : BitVec 32 := Scalar.addi c0_i32_353 v493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_354 : BitVec 32 := 4#32
  let v495 : BitVec 32 := Scalar.muli v5 c4_i32_354
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_355 : BitVec 32 := 1#32
  let v497 : BitVec 32 := Scalar.muli v17 c1_i32_355
  let v498 : BitVec 32 := Scalar.addi v496 v497
  v498.toNat
def k0_off17 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_369 : BitVec 32 := 256#32
  let v521 : BitVec 32 := Scalar.muli v20 c256_i32_369
  let v522 : Index := Scalar.indexCast v521
  let c512_370 : Index := 512#32
  ![v522.toNat, 512]
def k0_off18 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_374 : BitVec 32 := 256#32
  let v533 : BitVec 32 := Scalar.muli v20 c256_i32_374
  let c512_i32_381 : BitVec 32 := 512#32
  ![v533.toNat, 512]
def k0_dev22 (d0 : Dev nD) : Nat :=
  let c0_i32_378 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_377 : BitVec 32 := 16#32
  let v534 : BitVec 32 := Scalar.muli v11 c16_i32_377
  let v535 : BitVec 32 := Scalar.addi c0_i32_378 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_379 : BitVec 32 := 4#32
  let v536 : BitVec 32 := Scalar.muli v5 c4_i32_379
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v538 : BitVec 32 := Scalar.muli v8 c1_i32_380
  let v539 : BitVec 32 := Scalar.addi v537 v538
  v539.toNat
def k0_dev23 (d0 : Dev nD) : Nat :=
  let c0_i32_398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_397 : BitVec 32 := 16#32
  let v560 : BitVec 32 := Scalar.muli v2 c16_i32_397
  let v561 : BitVec 32 := Scalar.addi c0_i32_398 v560
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_399 : BitVec 32 := 4#32
  let v562 : BitVec 32 := Scalar.muli v14 c4_i32_399
  let v563 : BitVec 32 := Scalar.addi v561 v562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v564 : BitVec 32 := Scalar.muli v8 c1_i32_400
  let v565 : BitVec 32 := Scalar.addi v563 v564
  v565.toNat
def k0_dev24 (d0 : Dev nD) : Nat :=
  let c0_i32_408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_407 : BitVec 32 := 16#32
  let v574 : BitVec 32 := Scalar.muli v2 c16_i32_407
  let v575 : BitVec 32 := Scalar.addi c0_i32_408 v574
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_409 : BitVec 32 := 4#32
  let v576 : BitVec 32 := Scalar.muli v5 c4_i32_409
  let v577 : BitVec 32 := Scalar.addi v575 v576
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_410 : BitVec 32 := 1#32
  let v578 : BitVec 32 := Scalar.muli v17 c1_i32_410
  let v579 : BitVec 32 := Scalar.addi v577 v578
  v579.toNat
def k0_off19 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_424 : BitVec 32 := 256#32
  let v602 : BitVec 32 := Scalar.muli v20 c256_i32_424
  let v603 : Index := Scalar.indexCast v602
  let c768_425 : Index := 768#32
  ![v603.toNat, 768]
def k0_off20 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_429 : BitVec 32 := 256#32
  let v614 : BitVec 32 := Scalar.muli v20 c256_i32_429
  let c768_i32_436 : BitVec 32 := 768#32
  ![v614.toNat, 768]
def k0_dev25 (d0 : Dev nD) : Nat :=
  let c0_i32_433 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_432 : BitVec 32 := 16#32
  let v615 : BitVec 32 := Scalar.muli v11 c16_i32_432
  let v616 : BitVec 32 := Scalar.addi c0_i32_433 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_434 : BitVec 32 := 4#32
  let v617 : BitVec 32 := Scalar.muli v5 c4_i32_434
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v619 : BitVec 32 := Scalar.muli v8 c1_i32_435
  let v620 : BitVec 32 := Scalar.addi v618 v619
  v620.toNat
def k0_dev26 (d0 : Dev nD) : Nat :=
  let c0_i32_453 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_452 : BitVec 32 := 16#32
  let v641 : BitVec 32 := Scalar.muli v2 c16_i32_452
  let v642 : BitVec 32 := Scalar.addi c0_i32_453 v641
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_454 : BitVec 32 := 4#32
  let v643 : BitVec 32 := Scalar.muli v14 c4_i32_454
  let v644 : BitVec 32 := Scalar.addi v642 v643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v645 : BitVec 32 := Scalar.muli v8 c1_i32_455
  let v646 : BitVec 32 := Scalar.addi v644 v645
  v646.toNat
def k0_dev27 (d0 : Dev nD) : Nat :=
  let c0_i32_463 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_462 : BitVec 32 := 16#32
  let v655 : BitVec 32 := Scalar.muli v2 c16_i32_462
  let v656 : BitVec 32 := Scalar.addi c0_i32_463 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_464 : BitVec 32 := 4#32
  let v657 : BitVec 32 := Scalar.muli v5 c4_i32_464
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_465 : BitVec 32 := 1#32
  let v659 : BitVec 32 := Scalar.muli v17 c1_i32_465
  let v660 : BitVec 32 := Scalar.addi v658 v659
  v660.toNat
def k0_off21 (d0 : Dev nD) : Fin 2 → Nat :=
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let c256_i32_475 : BitVec 32 := 256#32
  let v681 : BitVec 32 := Scalar.muli v19 c256_i32_475
  let c0_i32_477 : BitVec 32 := 0#32
  ![v681.toNat, 0]
def k0_off22 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_519 : BitVec 32 := 256#32
  let v734 : BitVec 32 := Scalar.muli v20 c256_i32_519
  let v735 : Index := Scalar.indexCast v734
  let c0_520 : Index := 0#32
  ![v735.toNat, 0]
def k0_off23 (d0 : Dev nD) : Fin 2 → Nat :=
  let c3_i32 : BitVec 32 := 3#32
  let c2_i32_9 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v18 : BitVec 32 := Scalar.muli c2_i32_9 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v19 : BitVec 32 := Scalar.addi v18 v10
  let v20 : BitVec 32 := Scalar.subi c3_i32 v19
  let c256_i32_526 : BitVec 32 := 256#32
  let v748 : BitVec 32 := Scalar.muli v20 c256_i32_526
  let c0_i32_528 : BitVec 32 := 0#32
  ![v748.toNat, 0]
def k0_off24 (d0 : Dev nD) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c256_i32_610 : BitVec 32 := 256#32
  let v849 : BitVec 32 := Scalar.muli v23 c256_i32_610
  let v850 : Index := Scalar.indexCast v849
  let c0_611 : Index := 0#32
  ![v850.toNat, 0]
def k0_off25 (d0 : Dev nD) : Fin 2 → Nat :=
  let c2_i32_11 : BitVec 32 := 2#32
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v21 : BitVec 32 := Scalar.subi c1_i32_10 v9
  let v22 : BitVec 32 := Scalar.muli c2_i32_11 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v23 : BitVec 32 := Scalar.addi v22 v10
  let c256_i32_617 : BitVec 32 := 256#32
  let v864 : BitVec 32 := Scalar.muli v23 c256_i32_617
  let c0_i32_619 : BitVec 32 := 0#32
  ![v864.toNat, 0]
def k0_off26 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v24 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v25 : BitVec 32 := Scalar.subi c1_i32_13 v10
  let v26 : BitVec 32 := Scalar.addi v24 v25
  let c256_i32_701 : BitVec 32 := 256#32
  let v965 : BitVec 32 := Scalar.muli v26 c256_i32_701
  let v966 : Index := Scalar.indexCast v965
  let c0_702 : Index := 0#32
  ![v966.toNat, 0]
def k0_off27 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v24 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v25 : BitVec 32 := Scalar.subi c1_i32_13 v10
  let v26 : BitVec 32 := Scalar.addi v24 v25
  let c256_i32_708 : BitVec 32 := 256#32
  let v980 : BitVec 32 := Scalar.muli v26 c256_i32_708
  let c0_i32_710 : BitVec 32 := 0#32
  ![v980.toNat, 0]
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Shape.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Tactic

/-! The kernel's body written with one definition per kind of step, each over the slice's offset, the
column, the peer and the semaphores; and the theorem that the printed body is this program. -/

@[expose] public section

noncomputable section

namespace Cert.KernelIdeal

open Idealize.ShloMosaic Idealize.ShloMosaic.TcCoe Idealize.SL.Sem

variable {F : FTy → Type} [FloatOps F]

/-! ## The buffers -/

abbrev bDy : Memref sig .tc .hbm S1024x4096 .f32 := Memref.whole main_arg0
abbrev bW : Memref sig .tc .hbm S1024x4096 .f32 := Memref.whole main_arg1
abbrev bRes : Memref sig .tc .hbm S1024x1024 .f32 := Memref.whole main_v1
abbrev vW : Memref sig .tc .vmem S1024x4096 .f32 := Memref.whole cc0_scratch0
abbrev vOut : Memref sig .tc .vmem S1024x1024 .f32 := Memref.whole cc0_scratch1
abbrev vWb : Memref sig .tc .vmem S1024x4096 .bf16 := Memref.whole cc0_scratch2
abbrev vDy : Memref sig .tc .vmem S1024x4096 .f32 := Memref.whole cc0_scratch3
abbrev vDb : Memref sig .tc .vmem S256x4096 .bf16 := Memref.whole cc0_scratch4
abbrev vSend : Memref sig .tc .vmem S1024x1024 .bf16 := Memref.whole cc0_scratch5
abbrev vRecv : Memref sig .tc .vmem S1024x1024 .bf16 := Memref.whole cc0_scratch6
abbrev vLoc : Memref sig .tc .vmem S1024x1024 .bf16 := Memref.whole cc0_scratch7

/-- The semaphore of the transfers between devices: family `κ` (0 across x, 1 forwarded, 2 local), its
    sending side or its receiving side, slot `n`. -/
abbrev tsem (κ : Fin 3) (r : Bool) (n : Fin 8) : DmaSem sig :=
  ⟨10 + 16 * κ.val + 8 * (bif r then 1 else 0) + n.val, lt_of_lt_of_le
    (by have := κ.isLt; have := n.isLt; cases r <;> (simp; omega) : _ < 58) (Nat.le_refl 58)⟩
/-- The semaphore of a copy inside the device. -/
abbrev lsem (i : Fin 10) : DmaSem sig := ⟨i.val, lt_of_lt_of_le i.isLt (by decide : 10 ≤ 58)⟩
/-- The semaphore of the opening barrier. -/
abbrev barS : Sem sig := (SemArray.scalar (sig.barrier 0 rfl) : Sems sig S_).sem

/-! ## The rectangles -/

/-- The offsets at which 256 rows fit in a 1024 × 4096 array. -/
abbrev WideIn (o : Fin 2 → ℕ) : Prop := ∀ a, o a + S256x4096.size a ≤ S1024x4096.size a
/-- The offsets at which a 256 × 256 tile fits in a 1024 × 1024 array. -/
abbrev TileIn (o : Fin 2 → ℕ) : Prop := ∀ a, o a + S256x256.size a ≤ S1024x1024.size a
/-- The offsets at which 256 rows fit in a 1024 × 1024 array. -/
abbrev RowsIn (o : Fin 2 → ℕ) : Prop := ∀ a, o a + S256x1024.size a ≤ S1024x1024.size a

/-- 256 rows of a 1024 × 4096 array. -/
abbrev wideR (o : Fin 2 → ℕ) (h : WideIn o) : Rect S1024x4096 := Rect.unit (s := S1024x4096) o S256x4096.size h
/-- A 256 × 256 tile of a 1024 × 1024 array. -/
abbrev tileR (o : Fin 2 → ℕ) (h : TileIn o) : Rect S1024x1024 := Rect.unit (s := S1024x1024) o S256x256.size h
/-- 256 rows of a 1024 × 1024 array. -/
abbrev rowsR (o : Fin 2 → ℕ) (h : RowsIn o) : Rect S1024x1024 := Rect.unit (s := S1024x1024) o S256x1024.size h
/-- The whole of a 256 × 4096 array. -/
abbrev allR : Rect S256x4096 := Rect.unit (s := S256x4096) ![0, 0] S256x4096.size Gen.inb_S256x4096_S256x4096_0_0

abbrev tileOf {e : EltTy} (M : Memref sig .tc .vmem S1024x1024 e) (o : Fin 2 → ℕ) (h : TileIn o) : Memref sig .tc .vmem S256x256 e :=
  M.slice (tileR o h) (fun _ => rfl)

/-- What the word rule of a `bf16` tile asks of its offset. -/
abbrev TileWords (o : Fin 2 → ℕ) (h : TileIn o) : Prop := (tileR o h).WholeWords (EltTy.packing .bf16)
/-- What a store of a `bf16` tile asks of its offset. -/
abbrev TilePacked (o : Fin 2 → ℕ) (h : TileIn o) : Prop := (tileR o h).PackedRows (EltTy.packing .bf16)
/-- What a store of 256 `bf16` rows of a 1024 × 4096 array asks of its offset. -/
abbrev WidePacked (o : Fin 2 → ℕ) (h : WideIn o) : Prop := (wideR o h).PackedRows (EltTy.packing .bf16)

/-- The program type. -/
abbrev PG (F : FTy → Type) := Prog (TpuEff nD τ sig (Elt F) Λ₀ .tc) PUnit

/-! ## The steps -/

/-- Start a copy of 256 rows of an argument into the fast memory. -/
def inGo (A : Memref sig .tc .hbm S1024x4096 .f32) (B : Memref sig .tc .vmem S1024x4096 .f32) (s : DmaSem sig)
    (o : Fin 2 → ℕ) (h : WideIn o) : PG F :=
  Prog.lift (.enqueueDma (A.slice (wideR o h) (fun _ => rfl)) (.here (B.slice (wideR o h) (fun _ => rfl))) (.dma s)
    (View.wordExact_bits rfl) (View.wordExact_bits rfl) ⟨Or.inl rfl, trivial⟩)

/-- Wait for that copy. -/
def inWait (A : Memref sig .tc .hbm S1024x4096 .f32) (B : Memref sig .tc .vmem S1024x4096 .f32) (s : DmaSem sig)
    (o : Fin 2 → ℕ) (h : WideIn o) : PG F :=
  Prog.lift (.waitDma2 s (A.slice (wideR o h) (fun _ => rfl)) (B.slice (wideR o h) (fun _ => rfl))
    (View.wordExact_bits rfl) (View.wordExact_bits rfl))

/-- Round 256 rows of `dy` to `bf16`. -/
def dyCast (o : Fin 2 → ℕ) (h : WideIn o) : PG F := do
  let v : Vec F S256x4096 .f32 ← Prog.lift (.load vDy (wideR o h).toLoadRect (View.loadsAt_vmem Gen.h_S256x4096))
  let _ ← Prog.lift (.load vDb allR.toLoadRect (View.loadsAt_vmem Gen.h_S256x4096))
  Prog.lift (.store vDb allR (Gen.k0_pay1 v) Finset.univ
    (View.stores_vmem Gen.h_S256x4096 ((Memref.isWhole_whole cc0_scratch4).storeExact_slice rfl _ Gen.packedbf16_S256x4096_S256x4096_0_0) (fun _ => rfl)) (.inl rfl))

/-- Round 256 rows of `W` to `bf16`. -/
def wCast (o : Fin 2 → ℕ) (h : WideIn o) (hp : WidePacked o h) : PG F := do
  let v : Vec F S256x4096 .f32 ← Prog.lift (.load vW (wideR o h).toLoadRect (View.loadsAt_vmem Gen.h_S256x4096))
  let _ ← Prog.lift (.load vWb (wideR o h).toLoadRect (View.loadsAt_vmem Gen.h_S256x4096))
  Prog.lift (.store vWb (wideR o h) (Gen.k0_pay2 v) Finset.univ
    (View.stores_vmem Gen.h_S256x4096 ((Memref.isWhole_whole cc0_scratch2).storeExact_slice rfl _ hp) (fun _ => rfl)) (.inl rfl))

/-- One tile of the product: 256 rounded rows of `dy` (in `vDb`) times 256 rounded rows of `W`, stored in
    full and, rounded, in the buffer the transfers read. -/
def dot (ow : Fin 2 → ℕ) (hw : WideIn ow) (o : Fin 2 → ℕ) (h : TileIn o) (hp : TilePacked o h) : PG F := do
  let a : Vec F S256x4096 .bf16 ← Prog.lift (.load vDb allR.toLoadRect (View.loadsAt_vmem Gen.h_S256x4096))
  let b : Vec F S256x4096 .bf16 ← Prog.lift (.load vWb (wideR ow hw).toLoadRect (View.loadsAt_vmem Gen.h_S256x4096))
  let _ ← Prog.lift (.load vOut (tileR o h).toLoadRect (View.loadsAt_vmem Gen.h_S256x256))
  Prog.lift (.store vOut (tileR o h) (Gen.k0_pay4 a b) Finset.univ (View.stores_vmem_bits_univ Gen.h_S256x256 rfl) (.inl rfl))
  let _ ← Prog.lift (.load vSend (tileR o h).toLoadRect (View.loadsAt_vmem Gen.h_S256x256))
  Prog.lift (.store vSend (tileR o h) (Gen.k0_pay5 a b) Finset.univ
    (View.stores_vmem Gen.h_S256x256 ((Memref.isWhole_whole cc0_scratch5).storeExact_slice rfl _ hp) (fun _ => rfl)) (.inl rfl))

/-- Send a `bf16` tile to a peer: from a tile of `A` here to the same tile of `B` there. -/
def send (A : Memref sig .tc .vmem S1024x1024 .bf16) (hA : A.IsWhole) (B : Memref sig .tc .vmem S1024x1024 .bf16) (hB : B.IsWhole)
    (p : Dev nD) (κ : Fin 3) (n : Fin 8) (o : Fin 2 → ℕ) (h : TileIn o) (hw : TileWords o h) : PG F :=
  Prog.lift (.enqueueDma (tileOf A o h) (.remote (Dev.tc p) (tileOf B o h) (.dma (tsem κ false n))) (.dma (tsem κ true n))
    (hA.wordExact_slice rfl _ hw) (hB.wordExact_slice rfl _ hw) ⟨⟨rfl, Or.inl rfl⟩, trivial⟩)

/-- Wait on a transfer's semaphore. -/
def tWait (A : Memref sig .tc .vmem S1024x1024 .bf16) (hA : A.IsWhole) (B : Memref sig .tc .vmem S1024x1024 .bf16) (hB : B.IsWhole)
    (κ : Fin 3) (r : Bool) (n : Fin 8) (o : Fin 2 → ℕ) (h : TileIn o) (hw : TileWords o h) : PG F :=
  Prog.lift (.waitDma2 (tsem κ r n) (tileOf A o h) (tileOf B o h) (hA.wordExact_slice rfl _ hw) (hB.wordExact_slice rfl _ hw))

/-- Add the tile received from the other half of the mesh. -/
def addTile (o : Fin 2 → ℕ) (h : TileIn o) : PG F := do
  let a : Vec F S256x256 .f32 ← Prog.lift (.load vOut (tileR o h).toLoadRect (View.loadsAt_vmem Gen.h_S256x256))
  let b : Vec F S256x256 .bf16 ← Prog.lift (.load vRecv (tileR o h).toLoadRect (View.loadsAt_vmem Gen.h_S256x256))
  let _ ← Prog.lift (.load vOut (tileR o h).toLoadRect (View.loadsAt_vmem Gen.h_S256x256))
  Prog.lift (.store vOut (tileR o h) (Gen.k0_pay22 a b) Finset.univ (View.stores_vmem_bits_univ Gen.h_S256x256 rfl) (.inl rfl))

/-- Add 256 rows received from the other half of the mesh. -/
def addRows (o : Fin 2 → ℕ) (h : RowsIn o) : PG F := do
  let a : Vec F S256x1024 .f32 ← Prog.lift (.load vOut (rowsR o h).toLoadRect (View.loadsAt_vmem Gen.h_S256x1024))
  let b : Vec F S256x1024 .bf16 ← Prog.lift (.load vRecv (rowsR o h).toLoadRect (View.loadsAt_vmem Gen.h_S256x1024))
  let _ ← Prog.lift (.load vOut (rowsR o h).toLoadRect (View.loadsAt_vmem Gen.h_S256x1024))
  Prog.lift (.store vOut (rowsR o h) (Gen.k0_pay35 a b) Finset.univ (View.stores_vmem_bits_univ Gen.h_S256x1024 rfl) (.inl rfl))

/-- Add the two halves of 256 rows both computed elsewhere. -/
def sumRows (o : Fin 2 → ℕ) (h : RowsIn o) : PG F := do
  let a : Vec F S256x1024 .bf16 ← Prog.lift (.load vLoc (rowsR o h).toLoadRect (View.loadsAt_vmem Gen.h_S256x1024))
  let b : Vec F S256x1024 .bf16 ← Prog.lift (.load vRecv (rowsR o h).toLoadRect (View.loadsAt_vmem Gen.h_S256x1024))
  let _ ← Prog.lift (.load vOut (rowsR o h).toLoadRect (View.loadsAt_vmem Gen.h_S256x1024))
  Prog.lift (.store vOut (rowsR o h) (Gen.k0_pay36 a b) Finset.univ (View.stores_vmem_bits_univ Gen.h_S256x1024 rfl) (.inl rfl))

/-- Start the copy of 256 finished rows to the result. -/
def outGo (i : Fin 4) (o : Fin 2 → ℕ) (h : RowsIn o) : PG F :=
  Prog.lift (.enqueueDma (vOut.slice (rowsR o h) (fun _ => rfl)) (.here (bRes.slice (rowsR o h) (fun _ => rfl))) (.dma (lsem ⟨6 + i.val, by omega⟩))
    (View.wordExact_bits rfl) (View.wordExact_bits rfl) ⟨Or.inl rfl, trivial⟩)

/-- Wait for that copy. -/
def outWait (i : Fin 4) (o : Fin 2 → ℕ) (h : RowsIn o) : PG F :=
  Prog.lift (.waitDma2 (lsem ⟨6 + i.val, by omega⟩) (vOut.slice (rowsR o h) (fun _ => rfl)) (bRes.slice (rowsR o h) (fun _ => rfl))
    (View.wordExact_bits rfl) (View.wordExact_bits rfl))

theorem hSend : vSend.IsWhole := Memref.isWhole_whole _
theorem hRecv : vRecv.IsWhole := Memref.isWhole_whole _
theorem hLoc : vLoc.IsWhole := Memref.isWhole_whole _

/-- A column of the first quarter: its tile leaves to the three peers. -/
def sends (px py pz : Dev nD) (k : Fin 4) (o : Fin 2 → ℕ) (h : TileIn o) (hw : TileWords o h) : PG F := do
  send vSend hSend vRecv hRecv px 0 ⟨k.val, by omega⟩ o h hw
  send vSend hSend vLoc hLoc py 2 ⟨k.val, by omega⟩ o h hw
  send vSend hSend vLoc hLoc pz 2 ⟨4 + k.val, by omega⟩ o h hw

/-- A column of the second quarter: its tile leaves across x, the first quarter's tile arrives from there,
    is passed on to the two near peers and added. -/
def pass (px py pz : Dev nD) (k : Fin 4) (oD : Fin 2 → ℕ) (hD : TileIn oD) (hwD : TileWords oD hD)
    (oA : Fin 2 → ℕ) (hA : TileIn oA) (hwA : TileWords oA hA) (oB : Fin 2 → ℕ) (hB : TileIn oB) : PG F := do
  send vSend hSend vRecv hRecv px 0 ⟨4 + k.val, by omega⟩ oD hD hwD
  tWait vSend hSend vRecv hRecv 0 true ⟨k.val, by omega⟩ oA hA hwA
  send vRecv hRecv vRecv hRecv py 1 ⟨k.val, by omega⟩ oA hA hwA
  send vRecv hRecv vRecv hRecv pz 1 ⟨4 + k.val, by omega⟩ oA hA hwA
  addTile oB hB

/-- A tile of a near peer's quarter arrives: its local half and its forwarded half. -/
def arrive (n : Fin 8) (o : Fin 2 → ℕ) (h : TileIn o) (hw : TileWords o h) : PG F := do
  tWait vSend hSend vLoc hLoc 2 true n o h hw
  tWait vRecv hRecv vRecv hRecv 1 true n o h hw

/-- The sends of a column to a near peer have left. -/
def drain (n : Fin 8) (o : Fin 2 → ℕ) (h : TileIn o) (hw : TileWords o h) : PG F := do
  tWait vRecv hRecv vRecv hRecv 1 false n o h hw
  tWait vLoc hLoc vSend hSend 2 false n o h hw

/-- The three signals of the opening barrier. -/
def hand (px py pz : Dev nD) : PG F := do
  semSignalWord px barS 1#32
  semSignalWord py barS 1#32
  semSignalWord pz barS 1#32

/-- The first half of the body: the copies in, and the first quarter's four columns. -/
def firstHalf (d : Dev nD) : PG F := do
  hand ⟨k0_dev1 d, Gen.k0_dev1_lt d⟩ ⟨k0_dev2 d, Gen.k0_dev2_lt d⟩ ⟨k0_dev3 d, Gen.k0_dev3_lt d⟩
  inGo bW vW (lsem 0) ![0, 0] Gen.inb_S1024x4096_S256x4096_0_0
  inGo bDy vDy (lsem 4) (k0_off1 d) (Gen.k0_off1_inb d)
  inWait bDy vDy (lsem 4) (k0_off1 d) (Gen.k0_off1_inb d)
  dyCast (k0_off2 d) (Gen.k0_off2_inb d)
  inWait bW vW (lsem 0) ![0, 0] Gen.inb_S1024x4096_S256x4096_0_0
  inGo bW vW (lsem 1) ![256, 0] Gen.inb_S1024x4096_S256x4096_256_0
  inGo bW vW (lsem 2) ![512, 0] Gen.inb_S1024x4096_S256x4096_512_0
  inGo bW vW (lsem 3) ![768, 0] Gen.inb_S1024x4096_S256x4096_768_0
  inGo bDy vDy (lsem 5) (k0_off3 d) (Gen.k0_off3_inb d)
  wCast ![0, 0] Gen.inb_S1024x4096_S256x4096_0_0 Gen.packedbf16_S1024x4096_S256x4096_0_0
  dot ![0, 0] Gen.inb_S1024x4096_S256x4096_0_0 (k0_off4 d) (Gen.k0_off4_inb d) (Gen.k0_off4_packedbf16 d)
  semWaitWord barS 3#32
  sends ⟨k0_dev4 d, Gen.k0_dev4_lt d⟩ ⟨k0_dev5 d, Gen.k0_dev5_lt d⟩ ⟨k0_dev6 d, Gen.k0_dev6_lt d⟩ 0 (k0_off5 d) (Gen.k0_off5_inb d) (Gen.k0_off5_wordsbf16 d)
  inWait bW vW (lsem 1) ![256, 0] Gen.inb_S1024x4096_S256x4096_256_0
  wCast ![256, 0] Gen.inb_S1024x4096_S256x4096_256_0 Gen.packedbf16_S1024x4096_S256x4096_256_0
  dot ![256, 0] Gen.inb_S1024x4096_S256x4096_256_0 (k0_off6 d) (Gen.k0_off6_inb d) (Gen.k0_off6_packedbf16 d)
  sends ⟨k0_dev7 d, Gen.k0_dev7_lt d⟩ ⟨k0_dev8 d, Gen.k0_dev8_lt d⟩ ⟨k0_dev9 d, Gen.k0_dev9_lt d⟩ 1 (k0_off7 d) (Gen.k0_off7_inb d) (Gen.k0_off7_wordsbf16 d)
  inWait bW vW (lsem 2) ![512, 0] Gen.inb_S1024x4096_S256x4096_512_0
  wCast ![512, 0] Gen.inb_S1024x4096_S256x4096_512_0 Gen.packedbf16_S1024x4096_S256x4096_512_0
  dot ![512, 0] Gen.inb_S1024x4096_S256x4096_512_0 (k0_off8 d) (Gen.k0_off8_inb d) (Gen.k0_off8_packedbf16 d)
  sends ⟨k0_dev10 d, Gen.k0_dev10_lt d⟩ ⟨k0_dev11 d, Gen.k0_dev11_lt d⟩ ⟨k0_dev12 d, Gen.k0_dev12_lt d⟩ 2 (k0_off9 d) (Gen.k0_off9_inb d) (Gen.k0_off9_wordsbf16 d)
  inWait bW vW (lsem 3) ![768, 0] Gen.inb_S1024x4096_S256x4096_768_0
  wCast ![768, 0] Gen.inb_S1024x4096_S256x4096_768_0 Gen.packedbf16_S1024x4096_S256x4096_768_0
  dot ![768, 0] Gen.inb_S1024x4096_S256x4096_768_0 (k0_off10 d) (Gen.k0_off10_inb d) (Gen.k0_off10_packedbf16 d)
  sends ⟨k0_dev13 d, Gen.k0_dev13_lt d⟩ ⟨k0_dev14 d, Gen.k0_dev14_lt d⟩ ⟨k0_dev15 d, Gen.k0_dev15_lt d⟩ 3 (k0_off11 d) (Gen.k0_off11_inb d) (Gen.k0_off11_wordsbf16 d)

/-- The second quarter's four columns. -/
def secondHalf (d : Dev nD) : PG F := do
  inWait bDy vDy (lsem 5) (k0_off3 d) (Gen.k0_off3_inb d)
  dyCast (k0_off12 d) (Gen.k0_off12_inb d)
  dot ![0, 0] Gen.inb_S1024x4096_S256x4096_0_0 (k0_off13 d) (Gen.k0_off13_inb d) (Gen.k0_off13_packedbf16 d)
  pass ⟨k0_dev16 d, Gen.k0_dev16_lt d⟩ ⟨k0_dev17 d, Gen.k0_dev17_lt d⟩ ⟨k0_dev18 d, Gen.k0_dev18_lt d⟩ 0 (k0_off14 d) (Gen.k0_off14_inb d) (Gen.k0_off14_wordsbf16 d)
    (k0_off5 d) (Gen.k0_off5_inb d) (Gen.k0_off5_wordsbf16 d) (k0_off4 d) (Gen.k0_off4_inb d)
  dot ![256, 0] Gen.inb_S1024x4096_S256x4096_256_0 (k0_off15 d) (Gen.k0_off15_inb d) (Gen.k0_off15_packedbf16 d)
  pass ⟨k0_dev19 d, Gen.k0_dev19_lt d⟩ ⟨k0_dev20 d, Gen.k0_dev20_lt d⟩ ⟨k0_dev21 d, Gen.k0_dev21_lt d⟩ 1 (k0_off16 d) (Gen.k0_off16_inb d) (Gen.k0_off16_wordsbf16 d)
    (k0_off7 d) (Gen.k0_off7_inb d) (Gen.k0_off7_wordsbf16 d) (k0_off6 d) (Gen.k0_off6_inb d)
  dot ![512, 0] Gen.inb_S1024x4096_S256x4096_512_0 (k0_off17 d) (Gen.k0_off17_inb d) (Gen.k0_off17_packedbf16 d)
  pass ⟨k0_dev22 d, Gen.k0_dev22_lt d⟩ ⟨k0_dev23 d, Gen.k0_dev23_lt d⟩ ⟨k0_dev24 d, Gen.k0_dev24_lt d⟩ 2 (k0_off18 d) (Gen.k0_off18_inb d) (Gen.k0_off18_wordsbf16 d)
    (k0_off9 d) (Gen.k0_off9_inb d) (Gen.k0_off9_wordsbf16 d) (k0_off8 d) (Gen.k0_off8_inb d)
  dot ![768, 0] Gen.inb_S1024x4096_S256x4096_768_0 (k0_off19 d) (Gen.k0_off19_inb d) (Gen.k0_off19_packedbf16 d)
  pass ⟨k0_dev25 d, Gen.k0_dev25_lt d⟩ ⟨k0_dev26 d, Gen.k0_dev26_lt d⟩ ⟨k0_dev27 d, Gen.k0_dev27_lt d⟩ 3 (k0_off20 d) (Gen.k0_off20_inb d) (Gen.k0_off20_wordsbf16 d)
    (k0_off11 d) (Gen.k0_off11_inb d) (Gen.k0_off11_wordsbf16 d) (k0_off10 d) (Gen.k0_off10_inb d)
  outGo 0 (k0_off21 d) (Gen.k0_off21_inb d)

/-- The rows whose last contribution comes from elsewhere. -/
def collect (d : Dev nD) : PG F := do
  tWait vSend hSend vRecv hRecv 0 true 4 (k0_off14 d) (Gen.k0_off14_inb d) (Gen.k0_off14_wordsbf16 d)
  tWait vSend hSend vRecv hRecv 0 true 5 (k0_off16 d) (Gen.k0_off16_inb d) (Gen.k0_off16_wordsbf16 d)
  tWait vSend hSend vRecv hRecv 0 true 6 (k0_off18 d) (Gen.k0_off18_inb d) (Gen.k0_off18_wordsbf16 d)
  tWait vSend hSend vRecv hRecv 0 true 7 (k0_off20 d) (Gen.k0_off20_inb d) (Gen.k0_off20_wordsbf16 d)
  addRows (k0_off22 d) (Gen.k0_off22_inb d)
  outGo 1 (k0_off23 d) (Gen.k0_off23_inb d)
  arrive 0 (k0_off5 d) (Gen.k0_off5_inb d) (Gen.k0_off5_wordsbf16 d)
  arrive 1 (k0_off7 d) (Gen.k0_off7_inb d) (Gen.k0_off7_wordsbf16 d)
  arrive 2 (k0_off9 d) (Gen.k0_off9_inb d) (Gen.k0_off9_wordsbf16 d)
  arrive 3 (k0_off11 d) (Gen.k0_off11_inb d) (Gen.k0_off11_wordsbf16 d)
  sumRows (k0_off24 d) (Gen.k0_off24_inb d)
  outGo 2 (k0_off25 d) (Gen.k0_off25_inb d)
  arrive 4 (k0_off5 d) (Gen.k0_off5_inb d) (Gen.k0_off5_wordsbf16 d)
  arrive 5 (k0_off7 d) (Gen.k0_off7_inb d) (Gen.k0_off7_wordsbf16 d)
  arrive 6 (k0_off9 d) (Gen.k0_off9_inb d) (Gen.k0_off9_wordsbf16 d)
  arrive 7 (k0_off11 d) (Gen.k0_off11_inb d) (Gen.k0_off11_wordsbf16 d)
  sumRows (k0_off26 d) (Gen.k0_off26_inb d)
  outGo 3 (k0_off27 d) (Gen.k0_off27_inb d)

/-- Wait for everything still under way. -/
def finish (d : Dev nD) : PG F := do
  outWait 0 (k0_off21 d) (Gen.k0_off21_inb d)
  outWait 1 (k0_off23 d) (Gen.k0_off23_inb d)
  outWait 2 (k0_off25 d) (Gen.k0_off25_inb d)
  outWait 3 (k0_off27 d) (Gen.k0_off27_inb d)
  tWait vRecv hRecv vSend hSend 0 false 0 (k0_off5 d) (Gen.k0_off5_inb d) (Gen.k0_off5_wordsbf16 d)
  tWait vRecv hRecv vSend hSend 0 false 1 (k0_off7 d) (Gen.k0_off7_inb d) (Gen.k0_off7_wordsbf16 d)
  tWait vRecv hRecv vSend hSend 0 false 2 (k0_off9 d) (Gen.k0_off9_inb d) (Gen.k0_off9_wordsbf16 d)
  tWait vRecv hRecv vSend hSend 0 false 3 (k0_off11 d) (Gen.k0_off11_inb d) (Gen.k0_off11_wordsbf16 d)
  tWait vRecv hRecv vSend hSend 0 false 4 (k0_off14 d) (Gen.k0_off14_inb d) (Gen.k0_off14_wordsbf16 d)
  tWait vRecv hRecv vSend hSend 0 false 5 (k0_off16 d) (Gen.k0_off16_inb d) (Gen.k0_off16_wordsbf16 d)
  tWait vRecv hRecv vSend hSend 0 false 6 (k0_off18 d) (Gen.k0_off18_inb d) (Gen.k0_off18_wordsbf16 d)
  tWait vRecv hRecv vSend hSend 0 false 7 (k0_off20 d) (Gen.k0_off20_inb d) (Gen.k0_off20_wordsbf16 d)
  drain 0 (k0_off5 d) (Gen.k0_off5_inb d) (Gen.k0_off5_wordsbf16 d)
  drain 1 (k0_off7 d) (Gen.k0_off7_inb d) (Gen.k0_off7_wordsbf16 d)
  drain 2 (k0_off9 d) (Gen.k0_off9_inb d) (Gen.k0_off9_wordsbf16 d)
  drain 3 (k0_off11 d) (Gen.k0_off11_inb d) (Gen.k0_off11_wordsbf16 d)
  drain 4 (k0_off5 d) (Gen.k0_off5_inb d) (Gen.k0_off5_wordsbf16 d)
  drain 5 (k0_off7 d) (Gen.k0_off7_inb d) (Gen.k0_off7_wordsbf16 d)
  drain 6 (k0_off9 d) (Gen.k0_off9_inb d) (Gen.k0_off9_wordsbf16 d)
  drain 7 (k0_off11 d) (Gen.k0_off11_inb d) (Gen.k0_off11_wordsbf16 d)

/-- The body in four stretches. -/
def shaped : PG F := do
  let d : Dev nD ← Prog.lift .deviceId
  firstHalf d
  secondHalf d
  collect d
  finish d

set_option maxRecDepth 65536 in
/-- The printed body is the body in stretches. -/
theorem body_eq_shaped : cc0_body (F := F) bDy (Memref.isWhole_whole _) bW (Memref.isWhole_whole _) bRes (Memref.isWhole_whole _)
    vW (Memref.isWhole_whole _) vOut (Memref.isWhole_whole _) vWb (Memref.isWhole_whole _) vDy (Memref.isWhole_whole _)
    vDb (Memref.isWhole_whole _) vSend (Memref.isWhole_whole _) vRecv (Memref.isWhole_whole _) vLoc (Memref.isWhole_whole _)
    cc0_scratch8 cc0_scratch9 cc0_scratch10 cc0_scratch11 cc0_scratch12 cc0_scratch13 cc0_scratch14 cc0_scratch15 cc0_scratch16 = shaped := by
  rw [Gen.cc0_body_eq_skeleton]
  chain_rfl

end Cert.KernelIdeal
-- ==== Proof.Tiles.lean ====
module

public import proofs.«01_k».proof.Proof.Shape
public import Idealize.ShloMosaic.Lib.Pipeline.Value
public import Idealize.ShloMosaic.Lib.Pipeline.ValueKit.Geometry

/-! Who talks to whom, which rows each device holds, the tiles its buffers are cut into, and what the
buffers hold once filled. -/

@[expose] public section

noncomputable section

namespace Cert.KernelIdeal

open Idealize.ShloMosaic Idealize.ShloMosaic.TcCoe

variable {F : FTy → Type} [FloatOps F]

/-! ## The mesh -/

/-- The device across the x axis. -/
def xp (c : Dev nD) : Dev nD := ⟨k0_dev1 c, Gen.k0_dev1_lt c⟩
/-- The near device along y. -/
def yp (c : Dev nD) : Dev nD := ⟨k0_dev2 c, Gen.k0_dev2_lt c⟩
/-- The near device along z. -/
def zp (c : Dev nD) : Dev nD := ⟨k0_dev3 c, Gen.k0_dev3_lt c⟩

theorem xp_xp : ∀ c, xp (xp c) = c := by decide +kernel
theorem yp_yp : ∀ c, yp (yp c) = c := by decide +kernel
theorem zp_zp : ∀ c, zp (zp c) = c := by decide +kernel

/-- The quarter of the rows whose product a device computes and sends everywhere. -/
def qA (c : Dev nD) : Fin 4 := ⟨2 * (c.val / 4 % 2) + c.val % 2, by omega⟩
/-- The quarter opposite: computed too, sent across x only. -/
def qD (c : Dev nD) : Fin 4 := ⟨3 - (2 * (c.val / 4 % 2) + c.val % 2), by omega⟩
/-- The quarter of the near device along y. -/
def qY (c : Dev nD) : Fin 4 := qA (yp c)
/-- The quarter of the near device along z. -/
def qZ (c : Dev nD) : Fin 4 := qA (zp c)

theorem qA_xp : ∀ c, qA (xp c) = qA c := by decide +kernel
theorem qD_xp : ∀ c, qD (xp c) = qD c := by decide +kernel
theorem qY_yp (c : Dev nD) : qY (yp c) = qA c := by unfold qY; rw [yp_yp]
theorem qZ_zp (c : Dev nD) : qZ (zp c) = qA c := by unfold qZ; rw [zp_zp]
theorem qA_ne_qD : ∀ c, qA c ≠ qD c := by decide +kernel
theorem qY_ne_qA : ∀ c, qY c ≠ qA c := by decide +kernel
theorem qY_ne_qD : ∀ c, qY c ≠ qD c := by decide +kernel
theorem qZ_ne_qA : ∀ c, qZ c ≠ qA c := by decide +kernel
theorem qZ_ne_qD : ∀ c, qZ c ≠ qD c := by decide +kernel
theorem qZ_ne_qY : ∀ c, qZ c ≠ qY c := by decide +kernel

/-- The four quarters, in the order a device finishes them. -/
def quart (c : Dev nD) : Fin 4 → Fin 4 := ![qA c, qD c, qY c, qZ c]
theorem quart_injective : ∀ c, Function.Injective (quart c) := by decide +kernel
/-- The four quarters as a rearrangement. -/
def quartE (c : Dev nD) : Fin 4 ≃ Fin 4 := Equiv.ofBijective (quart c) (Finite.injective_iff_bijective.mp (quart_injective c))

/-! ## The peers each step names -/

theorem dev_x : ∀ d : Dev nD, k0_dev4 d = k0_dev1 d ∧ k0_dev7 d = k0_dev1 d ∧ k0_dev10 d = k0_dev1 d ∧ k0_dev13 d = k0_dev1 d
    ∧ k0_dev16 d = k0_dev1 d ∧ k0_dev19 d = k0_dev1 d ∧ k0_dev22 d = k0_dev1 d ∧ k0_dev25 d = k0_dev1 d := by decide +kernel
theorem dev_y : ∀ d : Dev nD, k0_dev5 d = k0_dev2 d ∧ k0_dev8 d = k0_dev2 d ∧ k0_dev11 d = k0_dev2 d ∧ k0_dev14 d = k0_dev2 d
    ∧ k0_dev17 d = k0_dev2 d ∧ k0_dev20 d = k0_dev2 d ∧ k0_dev23 d = k0_dev2 d ∧ k0_dev26 d = k0_dev2 d := by decide +kernel
theorem dev_z : ∀ d : Dev nD, k0_dev6 d = k0_dev3 d ∧ k0_dev9 d = k0_dev3 d ∧ k0_dev12 d = k0_dev3 d ∧ k0_dev15 d = k0_dev3 d
    ∧ k0_dev18 d = k0_dev3 d ∧ k0_dev21 d = k0_dev3 d ∧ k0_dev24 d = k0_dev3 d ∧ k0_dev27 d = k0_dev3 d := by decide +kernel

/-! ## Rows and tiles -/

/-- Where quarter `q` of the rows starts. -/
abbrev rO (q : Fin 4) : Fin 2 → ℕ := ![256 * q.val, 0]
/-- Where tile `(q, k)` starts. -/
abbrev tO (q k : Fin 4) : Fin 2 → ℕ := ![256 * q.val, 256 * k.val]

theorem wIn : ∀ q, WideIn (rO q) := by decide
theorem rIn : ∀ q, RowsIn (rO q) := by decide
theorem tIn : ∀ q k, TileIn (tO q k) := by decide

abbrev wS (q : Fin 4) : Finset S1024x4096.Idx := (wideR (rO q) (wIn q)).set
abbrev rS (q : Fin 4) : Finset S1024x1024.Idx := (rowsR (rO q) (rIn q)).set
abbrev tS (q k : Fin 4) : Finset S1024x1024.Idx := (tileR (tO q k) (tIn q k)).set

theorem mem_wS {q : Fin 4} {i : S1024x4096.Idx} : i ∈ wS q ↔ (i 0).val / 256 = q.val := by
  rw [wS, Rect.mem_set_unit, Fin.forall_fin_two]
  have h : (i 1).val < 4096 := (i 1).isLt
  simp [S256x4096]; omega
theorem mem_rS {q : Fin 4} {i : S1024x1024.Idx} : i ∈ rS q ↔ (i 0).val / 256 = q.val := by
  rw [rS, Rect.mem_set_unit, Fin.forall_fin_two]
  have h : (i 1).val < 1024 := (i 1).isLt
  simp [S256x1024]; omega
theorem mem_tS {q k : Fin 4} {i : S1024x1024.Idx} : i ∈ tS q k ↔ (i 0).val / 256 = q.val ∧ (i 1).val / 256 = k.val := by
  rw [tS, Rect.mem_set_unit, Fin.forall_fin_two]
  simp [S256x256]; omega

theorem wS_disjoint : ∀ q ∈ (Finset.univ : Finset (Fin 4)), ∀ q' ∈ (Finset.univ : Finset (Fin 4)), q ≠ q' → Disjoint (wS q) (wS q') :=
  fun q _ q' _ h => Finset.disjoint_left.mpr fun i h1 h2 => h (Fin.ext ((mem_wS.mp h1).symm.trans (mem_wS.mp h2)))
theorem rS_disjoint : ∀ q ∈ (Finset.univ : Finset (Fin 4)), ∀ q' ∈ (Finset.univ : Finset (Fin 4)), q ≠ q' → Disjoint (rS q) (rS q') :=
  fun q _ q' _ h => Finset.disjoint_left.mpr fun i h1 h2 => h (Fin.ext ((mem_rS.mp h1).symm.trans (mem_rS.mp h2)))
theorem tS_disjoint (q : Fin 4) : ∀ k ∈ (Finset.univ : Finset (Fin 4)), ∀ k' ∈ (Finset.univ : Finset (Fin 4)), k ≠ k' → Disjoint (tS q k) (tS q k') :=
  fun k _ k' _ h => Finset.disjoint_left.mpr fun i h1 h2 => h (Fin.ext ((mem_tS.mp h1).2.symm.trans (mem_tS.mp h2).2))

theorem wS_cover : Finset.univ.biUnion wS = Finset.univ := by
  ext i; have h : (i 0).val < 1024 := (i 0).isLt
  simp only [Finset.mem_biUnion, Finset.mem_univ, true_and, iff_true]
  exact ⟨⟨(i 0).val / 256, by omega⟩, mem_wS.mpr rfl⟩
theorem rS_cover : Finset.univ.biUnion rS = Finset.univ := by
  ext i; have h : (i 0).val < 1024 := (i 0).isLt
  simp only [Finset.mem_biUnion, Finset.mem_univ, true_and, iff_true]
  exact ⟨⟨(i 0).val / 256, by omega⟩, mem_rS.mpr rfl⟩
theorem tS_cover (q : Fin 4) : Finset.univ.biUnion (tS q) = rS q := by
  ext i; have h : (i 1).val < 1024 := (i 1).isLt
  simp only [Finset.mem_biUnion, Finset.mem_univ, true_and, mem_tS, mem_rS]
  exact ⟨fun ⟨_, h, _⟩ => h, fun h => ⟨⟨(i 1).val / 256, by omega⟩, h, rfl⟩⟩

/-! ## Reading a rectangle -/

/-- What a rectangle of an array holds. -/
abbrev rd {s : Shape} {α : Type} (r : Rect s) (f : s.Idx → α) : r.shape.Idx → α := fun x => f (r.emb x)

/-- The quarter an index is in. -/
def rowQ (i : S1024x1024.Idx) : Fin 4 := ⟨(i 0).val / 256, by have h : (i 0).val < 1024 := (i 0).isLt; omega⟩
/-- The column of tiles an index is in. -/
def colQ (i : S1024x1024.Idx) : Fin 4 := ⟨(i 1).val / 256, by have h : (i 1).val < 1024 := (i 1).isLt; omega⟩
/-- An index inside its tile. -/
def inTile (i : S1024x1024.Idx) : S256x256.Idx :=
  Fin.cons (⟨(i 0).val % 256, Nat.mod_lt _ (by decide)⟩ : Fin 256) (Fin.cons (⟨(i 1).val % 256, Nat.mod_lt _ (by decide)⟩ : Fin 256) finZeroElim)
/-- The quarter of the rows an index of a wide array is in. -/
def wideQ (i : S1024x4096.Idx) : Fin 4 := ⟨(i 0).val / 256, by have h : (i 0).val < 1024 := (i 0).isLt; omega⟩
/-- An index of a wide array inside its quarter. -/
def inWide (i : S1024x4096.Idx) : S256x4096.Idx :=
  Fin.cons (⟨(i 0).val % 256, Nat.mod_lt _ (by decide)⟩ : Fin 256) (Fin.cons (i 1) finZeroElim)

/-- An array put together from its tiles. -/
def glue {α : Type} (g : Fin 4 → Fin 4 → S256x256.Idx → α) (i : S1024x1024.Idx) : α := g (rowQ i) (colQ i) (inTile i)
/-- A wide array put together from its quarters. -/
def glueW {α : Type} (g : Fin 4 → S256x4096.Idx → α) (i : S1024x4096.Idx) : α := g (wideQ i) (inWide i)

theorem rd_glue {α : Type} (g : Fin 4 → Fin 4 → S256x256.Idx → α) (q k : Fin 4) : rd (tileR (tO q k) (tIn q k)) (glue g) = g q k := by
  funext x
  have h0 : (((tileR (tO q k) (tIn q k)).emb x) 0).val = 256 * q.val + (x 0).val := ValueKit.rect_emb_unit_val _ _ _ x 0
  have h1 : (((tileR (tO q k) (tIn q k)).emb x) 1).val = 256 * k.val + (x 1).val := ValueKit.rect_emb_unit_val _ _ _ x 1
  have x0 : (x 0).val < 256 := (x 0).isLt
  have x1 : (x 1).val < 256 := (x 1).isLt
  show g _ _ _ = g q k x
  have e0 : rowQ ((tileR (tO q k) (tIn q k)).emb x) = q := Fin.ext (by show (((tileR (tO q k) (tIn q k)).emb x) 0).val / 256 = _; omega)
  have e1 : colQ ((tileR (tO q k) (tIn q k)).emb x) = k := Fin.ext (by show (((tileR (tO q k) (tIn q k)).emb x) 1).val / 256 = _; omega)
  have e2 : inTile ((tileR (tO q k) (tIn q k)).emb x) = x := by
    funext a; refine a.cases ?_ (fun a => a.cases ?_ (fun a => a.elim0))
    · exact Fin.ext (show (((tileR (tO q k) (tIn q k)).emb x) 0).val % 256 = _ by rw [h0]; omega)
    · exact Fin.ext (show (((tileR (tO q k) (tIn q k)).emb x) 1).val % 256 = _ by rw [h1]; show _ = (x 1).val; omega)
  rw [e0, e1, e2]

theorem rd_glueW {α : Type} (g : Fin 4 → S256x4096.Idx → α) (q : Fin 4) : rd (wideR (rO q) (wIn q)) (glueW g) = g q := by
  funext x
  have h0 : (((wideR (rO q) (wIn q)).emb x) 0).val = 256 * q.val + (x 0).val := ValueKit.rect_emb_unit_val _ _ _ x 0
  have h1 : (((wideR (rO q) (wIn q)).emb x) 1).val = 0 + (x 1).val := ValueKit.rect_emb_unit_val _ _ _ x 1
  have x0 : (x 0).val < 256 := (x 0).isLt
  show g _ _ = g q x
  have e0 : wideQ ((wideR (rO q) (wIn q)).emb x) = q := Fin.ext (by show (((wideR (rO q) (wIn q)).emb x) 0).val / 256 = _; omega)
  have e2 : inWide ((wideR (rO q) (wIn q)).emb x) = x := by
    funext a; refine a.cases ?_ (fun a => a.cases ?_ (fun a => a.elim0))
    · exact Fin.ext (show (((wideR (rO q) (wIn q)).emb x) 0).val % 256 = _ by rw [h0]; omega)
    · exact Fin.ext (show (((wideR (rO q) (wIn q)).emb x) 1).val = (x 1).val by rw [h1]; omega)
  rw [e0, e2]

/-! ## What the buffers hold -/

section Contents

variable (m : (ℓ : Loc nD τ sig) → Buf (Elt F) ℓ)

/-- `dy` on device `c`. -/
def dyB (c : Dev nD) : S1024x4096.Idx → Elt F .f32 := m ((c : Thread nD τ).loc main_arg0)
/-- `W` on device `c`. -/
def wB (c : Dev nD) : S1024x4096.Idx → Elt F .f32 := m ((c : Thread nD τ).loc main_arg1)

/-- A quarter of `dy`, rounded. -/
def dyQ (c : Dev nD) (q : Fin 4) : Vec F S256x4096 .bf16 := Gen.k0_pay1 (rd (wideR (rO q) (wIn q)) (dyB m c))
/-- A quarter of `W`, rounded. -/
def wQ (c : Dev nD) (k : Fin 4) : Vec F S256x4096 .bf16 := Gen.k0_pay2 (rd (wideR (rO k) (wIn k)) (wB m c))

/-- `W` rounded. -/
def Wb (c : Dev nD) : S1024x4096.Idx → Elt F .bf16 := glueW (wQ m c)
/-- The product over the device's own columns, tile by tile. -/
def PA (c : Dev nD) : S1024x1024.Idx → Elt F .f32 := glue fun q k => Gen.k0_pay4 (dyQ m c q) (wQ m c k)
/-- That product rounded: what leaves the device. -/
def SB (c : Dev nD) : S1024x1024.Idx → Elt F .bf16 := glue fun q k => Gen.k0_pay5 (dyQ m c q) (wQ m c k)

/-- What arrives from the other half of the mesh: directly, or passed on by a near device. -/
def RB (c : Dev nD) (i : S1024x1024.Idx) : Elt F .bf16 :=
  if rowQ i = qY c then SB m (xp (yp c)) i else if rowQ i = qZ c then SB m (xp (zp c)) i else SB m (xp c) i
/-- What arrives from a near device. -/
def RL (c : Dev nD) (i : S1024x1024.Idx) : Elt F .bf16 := if rowQ i = qY c then SB m (yp c) i else SB m (zp c) i

/-- The result. -/
def OUT (c : Dev nD) (i : S1024x1024.Idx) : Elt F .f32 :=
  if rowQ i = qA c ∨ rowQ i = qD c then FloatOps.addf (PA m c i) (FloatOps.extf .f32 Gen.bitsLt_bf16_f32 (RB m c i))
  else FloatOps.addf (FloatOps.extf .f32 Gen.bitsLt_bf16_f32 (RL m c i)) (FloatOps.extf .f32 Gen.bitsLt_bf16_f32 (RB m c i))

theorem rd_Wb (c : Dev nD) (k : Fin 4) : rd (wideR (rO k) (wIn k)) (Wb m c) = wQ m c k := rd_glueW _ _
theorem rd_PA (c : Dev nD) (q k : Fin 4) : rd (tileR (tO q k) (tIn q k)) (PA m c) = Gen.k0_pay4 (dyQ m c q) (wQ m c k) := rd_glue _ _ _
theorem rd_SB (c : Dev nD) (q k : Fin 4) : rd (tileR (tO q k) (tIn q k)) (SB m c) = Gen.k0_pay5 (dyQ m c q) (wQ m c k) := rd_glue _ _ _

theorem rowQ_tile {q k : Fin 4} {i : S1024x1024.Idx} (h : i ∈ tS q k) : rowQ i = q := Fin.ext (mem_tS.mp h).1
theorem rowQ_rows {q : Fin 4} {i : S1024x1024.Idx} (h : i ∈ rS q) : rowQ i = q := Fin.ext (mem_rS.mp h)
theorem rowQ_emb (q : Fin 4) (x) : rowQ ((rowsR (rO q) (rIn q)).emb x) = q := rowQ_rows (LoadRect.idx_mem _ x)
theorem rowQ_embT (q k : Fin 4) (x) : rowQ ((tileR (tO q k) (tIn q k)).emb x) = q := rowQ_tile (LoadRect.idx_mem _ x)

/-- Adding a received tile to a computed one gives the result's tile. -/
theorem add_tile (c : Dev nD) (k : Fin 4) :
    Gen.k0_pay22 (rd (tileR (tO (qA c) k) (tIn (qA c) k)) (PA m c)) (rd (tileR (tO (qA c) k) (tIn (qA c) k)) (RB m c))
      = rd (tileR (tO (qA c) k) (tIn (qA c) k)) (OUT m c) := by
  unfold Gen.k0_pay22; simp only [shapeCast_self]
  funext x; unfold rd OUT; rw [if_pos (.inl (rowQ_embT _ _ x))]; rfl
/-- Adding received rows to computed ones gives the result's rows. -/
theorem add_rows (c : Dev nD) :
    Gen.k0_pay35 (rd (rowsR (rO (qD c)) (rIn (qD c))) (PA m c)) (rd (rowsR (rO (qD c)) (rIn (qD c))) (RB m c))
      = rd (rowsR (rO (qD c)) (rIn (qD c))) (OUT m c) := by
  unfold Gen.k0_pay35; simp only [shapeCast_self]
  funext x; unfold rd OUT; rw [if_pos (.inr (rowQ_emb _ x))]; rfl
/-- Adding the two received halves of a near device's quarter gives the result's rows. -/
theorem sum_rows (c : Dev nD) {q : Fin 4} (hq : q = qY c ∨ q = qZ c) :
    Gen.k0_pay36 (rd (rowsR (rO q) (rIn q)) (RL m c)) (rd (rowsR (rO q) (rIn q)) (RB m c)) = rd (rowsR (rO q) (rIn q)) (OUT m c) := by
  have hn : ¬ (q = qA c ∨ q = qD c) := by
    rcases hq with rfl | rfl
    · exact not_or.mpr ⟨qY_ne_qA c, qY_ne_qD c⟩
    · exact not_or.mpr ⟨qZ_ne_qA c, qZ_ne_qD c⟩
  unfold Gen.k0_pay36; simp only [shapeCast_self]
  funext x; unfold rd OUT; rw [if_neg (by rw [rowQ_emb]; exact hn)]; rfl

/-- The rows received across x are the far device's. -/
theorem RB_far (c : Dev nD) {q k : Fin 4} (hq : q = qA c ∨ q = qD c) : ∀ i ∈ tS q k, SB m (xp c) i = RB m c i := fun i hi => by
  unfold RB; rw [rowQ_tile hi]
  rcases hq with rfl | rfl
  · rw [if_neg (qY_ne_qA c).symm, if_neg (qZ_ne_qA c).symm]
  · rw [if_neg (qY_ne_qD c).symm, if_neg (qZ_ne_qD c).symm]
/-- The rows passed on along y are what the near device received. -/
theorem RB_y (c : Dev nD) (k : Fin 4) : ∀ i ∈ tS (qA c) k, RB m c i = RB m (yp c) i := fun i hi => by
  rw [← RB_far m c (.inl rfl) i hi]; unfold RB; rw [rowQ_tile hi, if_pos (qY_yp c).symm, yp_yp]
/-- The rows passed on along z are what the near device received. -/
theorem RB_z (c : Dev nD) (k : Fin 4) : ∀ i ∈ tS (qA c) k, RB m c i = RB m (zp c) i := fun i hi => by
  rw [← RB_far m c (.inl rfl) i hi]; unfold RB
  rw [rowQ_tile hi, if_neg (fun h => qZ_ne_qY (zp c) ((qZ_zp c).trans h)), if_pos (qZ_zp c).symm, zp_zp]
/-- The local half sent along y. -/
theorem RL_y (c : Dev nD) (k : Fin 4) : ∀ i ∈ tS (qA c) k, SB m c i = RL m (yp c) i := fun i hi => by
  unfold RL; rw [rowQ_tile hi, if_pos (qY_yp c).symm, yp_yp]
/-- The local half sent along z. -/
theorem RL_z (c : Dev nD) (k : Fin 4) : ∀ i ∈ tS (qA c) k, SB m c i = RL m (zp c) i := fun i hi => by
  unfold RL; rw [rowQ_tile hi, if_neg (fun h => qZ_ne_qY (zp c) ((qZ_zp c).trans h)), zp_zp]

end Contents

end Cert.KernelIdeal
-- ==== Proof.Cells.lean ====
module

public import proofs.«01_k».proof.Proof.Tiles
public import Idealize.ShloMosaic.Lib.Pipeline.Kit
public import Idealize.ShloMosaic.Lib.Transfers

/-! The semaphore cells of the exchange: who pays which cell what, what comes with the payment, what each
device owes and in which order the cells may be waited on. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The exchange's part: duties named by `Fin 3` (the three axes, at the barrier). -/
abbrev UB : Type := URounds (GSem nD τ sig) (Fin 3)
/-- With the launch's part and the counters of the copies inside a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The cells -/

abbrev bcell (c : Dev nD) : GSem nD τ sig := ((c : Thread nD τ), .reg barS)
abbrev tcell (c : Dev nD) (κ : Fin 3) (r : Bool) (n : Fin 8) : GSem nD τ sig := ((c : Thread nD τ), .dma (tsem κ r n))
abbrev lcell (c : Dev nD) (i : Fin 10) : GSem nD τ sig := ((c : Thread nD τ), .dma (lsem i))

/-- Which transfer a semaphore belongs to, if any. -/
def slot (s : DmaSem sig) : Option (Fin 3 × Bool × Fin 8) :=
  if 10 ≤ s.val then some (⟨(s.val - 10) / 16, by have : s.val < 58 := s.isLt; omega⟩, decide ((s.val - 10) / 8 % 2 = 1), ⟨(s.val - 10) % 8, by omega⟩)
  else none

theorem slot_tsem : ∀ κ r n, slot (tsem κ r n) = some (κ, r, n) := by decide +kernel
theorem slot_lsem : ∀ i, slot (lsem i) = none := by decide +kernel

/-- The bytes' credit of one tile. -/
def N : ℕ := (tileOf vRecv (tO 0 0) (tIn 0 0)).view.dmaCredit
theorem N_pos : 0 < N := View.dmaCredit_pos _ (by decide)

/-! ## Which tile a transfer moves -/

/-- Slots 4 to 7 are the second group of a family: the second quarter across x, the z direction elsewhere. -/
def late (n : Fin 8) : Bool := decide (4 ≤ n.val)
/-- The column of tiles of a slot. -/
def col (n : Fin 8) : Fin 4 := ⟨n.val % 4, by omega⟩
/-- The slot of a column in the first group. -/
abbrev lo (k : Fin 4) : Fin 8 := ⟨k.val, by omega⟩
/-- The slot of a column in the second group. -/
abbrev hi (k : Fin 4) : Fin 8 := ⟨4 + k.val, by omega⟩

theorem late_lo : ∀ k, late (lo k) = false := by decide
theorem late_hi : ∀ k, late (hi k) = true := by decide
theorem col_lo : ∀ k, col (lo k) = k := by decide
theorem col_hi : ∀ k, col (hi k) = k := by decide

/-- The quarter a transfer sends. -/
def outQ (c : Dev nD) (κ : Fin 3) (n : Fin 8) : Fin 4 := if κ = 0 ∧ late n = true then qD c else qA c
/-- The quarter in which a transfer lands. -/
def inQ (c : Dev nD) (κ : Fin 3) (n : Fin 8) : Fin 4 := if κ = 0 then outQ c κ n else if late n = true then qZ c else qY c
/-- The device a transfer goes to, or comes from. -/
def peer (c : Dev nD) (κ : Fin 3) (n : Fin 8) : Dev nD := if κ = 0 then xp c else if late n = true then zp c else yp c

theorem peer_peer (c : Dev nD) (κ : Fin 3) (n : Fin 8) : peer (peer c κ n) κ n = c := by
  unfold peer; split
  · exact xp_xp c
  · split
    · exact zp_zp c
    · exact yp_yp c
/-- A tile lands in the place it left. -/
theorem inQ_peer (c : Dev nD) (κ : Fin 3) (n : Fin 8) : inQ (peer c κ n) κ n = outQ c κ n := by
  unfold inQ peer outQ; by_cases h : κ = 0
  · simp only [h, true_and, if_true]; rw [qD_xp, qA_xp]
  · simp only [h, if_false, false_and]; split
    · exact qZ_zp c
    · exact qY_yp c

/-- The share of a tile a transfer borrows: a tile sent several times is lent in parts. -/
def part (κ : Fin 3) (n : Fin 8) : PosShare TreeShare :=
  if κ = 0 then (if late n = true then fullShare else fullShare.left)
  else if κ = 1 then (if late n = true then fullShare.right.left else fullShare.left)
  else (if late n = true then fullShare.right.right else fullShare.right.left)

/-! ## What the buffers hold at each cell -/

/-- A tile of a buffer with bf16 entries, at given contents. -/
abbrev tSend (c : Dev nD) (q k : Fin 4) (p : PosShare TreeShare) (f : Buf (Elt F) ((c : Thread nD τ).loc cc0_scratch5)) : sProp 𝕄 :=
  ((c : Thread nD τ).loc cc0_scratch5) ↦[tS q k]{p} f
abbrev tRecv (c : Dev nD) (q k : Fin 4) (p : PosShare TreeShare) (f : Buf (Elt F) ((c : Thread nD τ).loc cc0_scratch6)) : sProp 𝕄 :=
  ((c : Thread nD τ).loc cc0_scratch6) ↦[tS q k]{p} f
abbrev tLoc (c : Dev nD) (q k : Fin 4) (p : PosShare TreeShare) (f : Buf (Elt F) ((c : Thread nD τ).loc cc0_scratch7)) : sProp 𝕄 :=
  ((c : Thread nD τ).loc cc0_scratch7) ↦[tS q k]{p} f
abbrev tOut (c : Dev nD) (q k : Fin 4) (f : Buf (Elt F) ((c : Thread nD τ).loc cc0_scratch1)) : sProp 𝕄 :=
  ((c : Thread nD τ).loc cc0_scratch1) ↦[tS q k]{fullShare} f

variable (m : (ℓ : Loc nD τ sig) → Buf (Elt F) ℓ) (ρ : Dev nD → PrngReg)

/-- The tile a transfer lends while it flies. -/
def lent (c : Dev nD) (κ : Fin 3) (n : Fin 8) : sProp 𝕄 :=
  if κ = 1 then tRecv c (outQ c κ n) (col n) (part κ n) (RB m c) else tSend c (outQ c κ n) (col n) (part κ n) (SB m c)
/-- The tile a transfer delivers. -/
def landed (c : Dev nD) (κ : Fin 3) (n : Fin 8) : sProp 𝕄 :=
  if κ = 2 then tLoc c (inQ c κ n) (col n) fullShare (RL m c) else tRecv c (inQ c κ n) (col n) fullShare (RB m c)
/-- The place where a transfer lands, before it does. -/
def hole (c : Dev nD) (κ : Fin 3) (n : Fin 8) : sProp 𝕄 :=
  if κ = 2 then iprop(∃ f, tLoc c (inQ c κ n) (col n) fullShare f) else iprop(∃ f, tRecv c (inQ c κ n) (col n) fullShare f)

instance lent_storable (c κ n) : BI.Storable (upEmb : UEmb _ 𝕄) (lent m c κ n) := by unfold lent; split <;> infer_instance
instance landed_storable (c κ n) : BI.Storable (upEmb : UEmb _ 𝕄) (landed m c κ n) := by unfold landed; split <;> infer_instance
instance hole_storable (c κ n) : BI.Storable (upEmb : UEmb _ 𝕄) (hole (F := F) c κ n) := by unfold hole; split <;> infer_instance

/-- What a near or far device's signal hands over: the places in its buffers where this device's tiles go. -/
def barPay (c : Dev nD) (d : Fin 3) : sProp 𝕄 :=
  if d = 0 then bigSep Finset.univ fun k : Fin 4 => iprop(hole (xp c) 0 (lo k) ∗ hole (xp c) 0 (hi k))
  else if d = 1 then bigSep Finset.univ fun k : Fin 4 => iprop(hole (yp c) 1 (lo k) ∗ hole (yp c) 2 (lo k))
  else bigSep Finset.univ fun k : Fin 4 => iprop(hole (zp c) 1 (hi k) ∗ hole (zp c) 2 (hi k))

instance barPay_storable (c d) : BI.Storable (upEmb : UEmb _ 𝕄) (barPay (F := F) c d) := by
  unfold barPay; (repeat' split) <;> infer_instance

/-- What a payment on a semaphore of `c` hands over. -/
def payOf (c : Dev nD) (d : Fin 3) : SemLoc sig → sProp 𝕄
  | .reg _ => barPay c d
  | .dma s => match slot s with
    | none => iprop(emp)
    | some (κ, r, n) => bif r then landed m c κ n else lent m c κ n

/-- Every cell is used for one round: the barrier is paid by three devices, a transfer's cell once. -/
def sched : Rounds.Schedule (GSem nD τ sig) (Fin 3) 𝕄 where
  duties g r := if r = 0 ∧ g.1.2 = .tc then (match g.2 with
    | .reg _ => Finset.univ
    | .dma s => if (slot s).isSome then {0} else ∅) else ∅
  unitless _ := False
  amount g _ _ := match g.2 with | .reg _ => 1 | .dma _ => N
  payload g _ d := payOf m g.1.1 d g.2
  amount_pos g _ _ _ := by
    rcases g with ⟨_, _ | _⟩
    · exact Nat.one_pos
    · exact N_pos

instance sched_storable (g : GSem nD τ sig) (r : ℕ) (d : Fin 3) : BI.Storable (upEmb : UEmb _ 𝕄) ((sched (F := F) m).payload g r d) := by
  show BI.Storable upEmb (payOf m g.1.1 d g.2)
  unfold payOf; split
  · infer_instance
  · split
    · infer_instance
    · rename_i r _ _; cases r <;> (dsimp only [cond]; infer_instance)

section Facts

variable (c : Dev nD) (κ : Fin 3) (r : Bool) (n : Fin 8)

theorem duties_bar : (sched (F := F) m).duties (bcell c) 0 = Finset.univ := by dsimp only [sched]; exact if_pos ⟨rfl, rfl⟩
theorem duties_tr : (sched (F := F) m).duties (tcell c κ r n) 0 = {0} := by
  dsimp only [sched]; rw [if_pos ⟨rfl, rfl⟩, slot_tsem]; rfl
theorem duties_later (g : GSem nD τ sig) : ∀ r, 1 ≤ r → (sched (F := F) m).duties g r = ∅ :=
  fun r hr => by dsimp only [sched]; exact if_neg fun h => by omega
theorem amount_bar (d : Fin 3) : (sched (F := F) m).amount (bcell c) 0 d = 1 := rfl
theorem amount_tr (d : Fin 3) : (sched (F := F) m).amount (tcell c κ r n) 0 d = N := rfl
theorem expect_bar : (sched (F := F) m).expect (bcell c) 0 = 3 := by
  unfold Schedule.expect Schedule.amountOf
  rw [duties_bar, Finset.sum_congr rfl fun d _ => amount_bar m c d, Finset.sum_const, Finset.card_univ]; rfl
theorem expect_tr : (sched (F := F) m).expect (tcell c κ r n) 0 = N := by
  unfold Schedule.expect Schedule.amountOf; rw [duties_tr, Finset.sum_singleton, amount_tr]
theorem payload_bar (d : Fin 3) : (sched (F := F) m).payload (bcell c) 0 d = barPay c d := rfl
theorem payload_tr (d : Fin 3) : (sched (F := F) m).payload (tcell c κ r n) 0 d = bif r then landed m c κ n else lent m c κ n := by
  show payOf m c d (.dma (tsem κ r n)) = _
  unfold payOf; dsimp only; rw [slot_tsem]
theorem rest_bar : bigSep ((sched (F := F) m).duties (bcell c) 0 \ ∅) (fun d => (sched (F := F) m).payload (bcell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_tr : bigSep ((sched (F := F) m).duties (tcell c κ r n) 0 \ ∅) (fun d => (sched (F := F) m).payload (tcell c κ r n) 0 d)
    = bif r then landed m c κ n else lent m c κ n := by
  rw [Finset.sdiff_empty, duties_tr, bigSep_singleton, payload_tr]

end Facts

/-! ## Debts and levels -/

/-- One thing a device owes: a barrier signal along an axis, or a transfer. -/
inductive Due : Type
  | bar (d : Fin 3)
  | tr (κ : Fin 3) (n : Fin 8)
  deriving DecidableEq

/-- The device along an axis. -/
def along (c : Dev nD) (d : Fin 3) : Dev nD := if d = 0 then xp c else if d = 1 then yp c else zp c
theorem along_along (c : Dev nD) (d : Fin 3) : along (along c d) d = c := by
  unfold along; split
  · exact xp_xp c
  · split
    · exact yp_yp c
    · exact zp_zp c

/-- The cell a debt is owed to. -/
def dcell (c : Dev nD) : Due → GSem nD τ sig
  | .bar d => bcell (along c d)
  | .tr κ n => tcell (peer c κ n) κ true n
/-- How much. -/
def damt : Due → ℕ
  | .bar _ => 1
  | .tr _ _ => N

/-- What a list of debts comes to. -/
def debt (c : Dev nD) : List Due → CellTallies nD τ sig Unit
  | [] => 0
  | d :: l => debt c l + tallyAt (dcell c d) () (damt d)

/-- The debts of the opening, then of the first quarter's columns, then of the second's, in program order. -/
def dues1 : Fin 4 → List Due := fun k => [.tr 0 (lo k), .tr 2 (lo k), .tr 2 (hi k)]
def dues2 : Fin 4 → List Due := fun k => [.tr 0 (hi k), .tr 1 (lo k), .tr 1 (hi k)]
def second : List Due := dues2 0 ++ (dues2 1 ++ (dues2 2 ++ dues2 3))
def first : List Due := dues1 0 ++ (dues1 1 ++ (dues1 2 ++ (dues1 3 ++ second)))
def dues : List Due := .bar 0 :: .bar 1 :: .bar 2 :: first

def L (g : GSem nD τ sig) : Finset Unit := if g.1.2 = .tc then {()} else ∅
/-- The level of a semaphore: the barrier lowest of those paid by others, then the first tiles across x, then the rest. -/
def slv : SemLoc sig → ℕ
  | .reg _ => 1
  | .dma s => match slot s with
    | some (κ, r, n) => bif r then (if κ = 0 ∧ late n = false then 2 else 3) else 0
    | none => 0
def lv (g : GSem nD τ sig) (_ : Unit) : ℕ := slv g.2
/-- The level of a debt. -/
def dlv : Due → ℕ
  | .bar _ => 1
  | .tr κ n => if κ = 0 ∧ late n = false then 2 else 3

theorem L_of_ne (g : GSem nD τ sig) (h : g.1.2 ≠ .tc) : L g = ∅ := if_neg h
theorem L_tc (c : Dev nD) (sm : SemLoc sig) : L ((c : Thread nD τ), sm) = {()} := if_pos rfl

theorem slv_tr (κ r n) : slv (.dma (tsem κ r n)) = bif r then (if κ = 0 ∧ late n = false then 2 else 3) else 0 := by
  unfold slv; dsimp only; rw [slot_tsem]
theorem slv_local (i) : slv (.dma (lsem i)) = 0 := by unfold slv; dsimp only; rw [slot_lsem]
theorem lv_dcell (c : Dev nD) (d : Due) : lv (dcell c d) () = dlv d := by
  cases d with
  | bar d => rfl
  | tr κ n => exact slv_tr κ true n
theorem dcell_tc (c : Dev nD) (d : Due) : (dcell c d).1.2 = .tc := by cases d <;> rfl

theorem debt_pos {c : Dev nD} {g : GSem nD τ sig} {u : Unit} : ∀ {l : List Due}, 0 < debt c l g u → ∃ d ∈ l, g = dcell c d
  | [], h => absurd h (Nat.lt_irrefl 0)
  | d :: l, h => by
    unfold debt at h
    rw [Pi.add_apply, Finsupp.add_apply, tallyAt_apply] at h
    by_cases hd : g = dcell c d ∧ u = ()
    · exact ⟨d, List.mem_cons_self .., hd.1⟩
    · rw [if_neg hd, Nat.add_zero] at h
      obtain ⟨d', h1, h2⟩ := debt_pos h
      exact ⟨d', List.mem_cons_of_mem _ h1, h2⟩

/-- A semaphore may be waited on while every debt left is above it. -/
theorem mayWait (c : Dev nD) (sm : SemLoc sig) (l : List Due) (h : ∀ d ∈ l, slv sm < dlv d) :
    (levAts L lv : sProp 𝕄) ⊢ MayWait (c : Thread nD τ) sm () (debt c l) :=
  MayOwe.of_cut (L := L) (lev := lv) (slv sm) (fun p hp => by rw [Finset.mem_singleton.mp hp, L_tc]; exact Finset.mem_singleton_self _)
    (fun g u hg => by obtain ⟨d, -, rfl⟩ := debt_pos hg; unfold L; rw [if_pos (dcell_tc c d)]; exact Finset.mem_singleton_self _)
    (fun p hp => by rw [Finset.mem_singleton.mp hp]; exact le_refl _)
    (fun g u hg => by obtain ⟨d, hd, rfl⟩ := debt_pos hg; cases u; rw [lv_dcell]; exact h d hd)

end Cert.KernelIdeal
-- ==== Proof.Steps.lean ====
module

public import proofs.«01_k».proof.Proof.Cells

/-! What each step of the body does: one theorem per kind of step, for every tile, slot and peer. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Running a program on device `c`. -/
abbrev WP (c : Dev nD) (p : PG F) (Q : PUnit → sProp 𝕄) : sProp 𝕄 :=
  wp frame (wpE (defs₀ (F := F)) 𝒱₀ (c : Thread nD τ) none) Set.univ p Q

/-! ## What is known everywhere -/

/-- The cells of the exchange: per device the barrier's and each transfer's two. -/
abbrev Slot : Type := Option (Fin 3 × Bool × Fin 8)
abbrev ssem : Slot → SemLoc sig
  | none => .reg barS
  | some (κ, r, n) => .dma (tsem κ r n)
abbrev kcell (x : Dev nD × Slot) : GSem nD τ sig := ((x.1 : Thread nD τ), ssem x.2)

/-- Every cell's invariant, that round 0 of it has begun, and the levels. -/
def records (K : Dev nD × Slot → ℕ) : sProp 𝕄 :=
  iprop((bigSep Finset.univ fun x : Dev nD × Slot => cellInv ER (sched m) (K x) (kcell x))
    ∗ (bigSep Finset.univ fun x : Dev nD × Slot => reached ER (kcell x) 0) ∗ levAts L lv)

instance records_persistent (K : Dev nD × Slot → ℕ) : BI.Persistent (records m K) := by unfold records; infer_instance

variable (K : Dev nD × Slot → ℕ)

theorem inv_at (x : Dev nD × Slot) :
    (bigSep Finset.univ fun x : Dev nD × Slot => (cellInv ER (sched m) (K x) (kcell x) : sProp 𝕄)) ⊢ cellInv ER (sched m) (K x) (kcell x) :=
  bigSep_elim (Finset.mem_univ x)
theorem reached_at (x : Dev nD × Slot) :
    (bigSep Finset.univ fun x : Dev nD × Slot => (reached ER (kcell x) 0 : sProp 𝕄)) ⊢ reached ER (kcell x) 0 :=
  bigSep_elim (Finset.mem_univ x)
theorem records_inv (x : Dev nD × Slot) : records m K ⊢ cellInv ER (sched m) (K x) (kcell x) := by
  unfold records; iintro ⟨H, -, -⟩;
  iapply (inv_at m K x); iexact H
theorem records_reached (x : Dev nD × Slot) : records m K ⊢ reached ER (kcell x) 0 := by
  unfold records; iintro ⟨-, H, -⟩;
  iapply (reached_at (F := F) x); iexact H
theorem records_lev : records m K ⊢ levAts L lv := by
  unfold records; iintro ⟨-, -, H⟩; iexact H

/-- What device `c` still owes. -/
def ow (c : Dev nD) (l : List Due) : sProp 𝕄 := iprop(∃ W, owes (c : Thread nD τ) (debt c l) W)

theorem records_mayWait (c : Dev nD) (sm : SemLoc sig) (l : List Due) (h : ∀ d ∈ l, slv sm < dlv d) :
    records m K ⊢ MayWait (c : Thread nD τ) sm () (debt c l) := by
  have h2 : records m K ⊢ levAts L lv := @records_lev F _ m K
  exact h2.trans (mayWait (F := F) c sm l h)

theorem dlv_pos (d : Due) : 0 < dlv d := by
  cases d with
  | bar d => exact Nat.one_pos
  | tr κ n => show 0 < ite _ _ _; split <;> decide

/-- What it takes to send in a slot: the place over there, the right to pay the two cells, this device's position. -/
def ready (c : Dev nD) (κ : Fin 3) (n : Fin 8) : sProp 𝕄 :=
  iprop(hole (peer c κ n) κ n ∗ dutyTok ER (tcell c κ false n) 0 0 ∗ dutyTok ER (tcell (peer c κ n) κ true n) 0 0 ∗ atPos ER (tcell c κ false n) 0 ∅ 0)
/-- What it takes to wait on a transfer's cell. -/
def await (c : Dev nD) (κ : Fin 3) (r : Bool) (n : Fin 8) : sProp 𝕄 :=
  iprop(cred (tallyAt (tcell c κ r n) () N) ∗ atPos ER (tcell c κ r n) 0 ∅ 0)
/-- A transfer's semaphore back at zero. -/
abbrev zero (c : Dev nD) (κ : Fin 3) (r : Bool) (n : Fin 8) : sProp 𝕄 := semVal (tcell c κ r n) 0

/-! ## Signals and the barrier wait -/

theorem signal_spec (c p : Dev nD) (d : Fin 3) (hp : p = along c d) (l : List Due) (Q : PUnit → sProp 𝕄) :
    iprop(records m K ∗ ow c (.bar d :: l) ∗ dutyTok ER (bcell (along c d)) 0 d ∗ barPay (along c d) d)
      ⊢ iprop((ow c l -∗ Q ⟨⟩) -∗ WP c (semSignalWord p barS 1#32) Q) := by
  subst hp
  unfold WP
  simp only [semSignalWord, semWaitWord, Prog.lift, Prog.bind_op, Prog.bind_ret, Prog.pure_eq_ret]
  unfold ow
  iintro ⟨#HR, ⟨%W, HO⟩, Ht, Hp⟩ HQ
  iapply (Rounds.wp_signal 𝒱₀ ER (sched m) (c : Thread nD τ) none (dst := (along c d : Thread nD τ)) (κ := K (along c d, none))
      (d := d) (by rw [duties_bar]; exact Finset.mem_univ _) ((amount_bar m (along c d) d).trans (by decide)) () (debt c l) rfl) $$ [HO Ht Hp]
  · isplitr; · iapply (records_inv m K (along c d, none)); iexact HR
    isplitl [HO]; · iexact HO
    isplitl [Ht]; · iexact Ht
    isplitl [Hp]; · rw [payload_bar]; iexact Hp
    iapply (records_reached m K (along c d, none)); iexact HR
  iintro HO
  rw [wp_ret]; imodintro
  iapply HQ; iexists W; iexact HO

theorem barrier_spec (c : Dev nD) (l : List Due) (hl : ∀ d ∈ l, 1 < dlv d) (Q : PUnit → sProp 𝕄) :
    iprop(records m K ∗ ow c l ∗ cred (tallyAt (bcell c) () 3) ∗ atPos ER (bcell c) 0 ∅ 0)
      ⊢ iprop(((ow c l ∗ (barPay c 0 ∗ barPay c 1 ∗ barPay c 2) ∗ semVal (bcell c) 0) -∗ Q ⟨⟩) -∗ WP c (semWaitWord barS 3#32) Q) := by
  unfold WP
  simp only [semSignalWord, semWaitWord, Prog.lift, Prog.bind_op, Prog.bind_ret, Prog.pure_eq_ret]
  unfold ow
  iintro ⟨#HR, ⟨%W, HO⟩, Hc, Hat⟩ HQ
  iapply (Rounds.wp_wait_rest_token 𝒱₀ ER (sched m) (c : Thread nD τ) none (κ := K (c, none))
      (wpE_semWait_eq 𝒱₀ (c : Thread nD τ) none Set.univ) (Set.mem_univ _) () (O := debt c l) (W := W) (R := 0) (m := 0) (T := ∅)
      (by rw [expect_bar]; decide)) $$ [Hc HO Hat]
  · isplitr; · iapply (records_inv m K (c, none)); iexact HR
    isplitl [Hc]; · iexact Hc
    isplitl [HO]; · iexact HO
    isplitr; · iapply (records_mayWait m K c (.reg barS) l hl); iexact HR
    iexact Hat
  iintro ⟨HO, Hat, -, Hp⟩
  ihave Hp := (Entails.of_eq (rest_bar m c)) $$ Hp
  imod (Rounds.cell_close ER (sched m) (Set.mem_univ (K (c, none))) (fun h => h) (R := 0 + 1) (duties_later m (bcell c))) $$ [Hat] with Hz
  · isplitr; · iapply (records_inv m K (c, none)); iexact HR
    iexact Hat
  rw [wp_ret]; imodintro
  iapply HQ
  isplitl [HO]; · iexists _; iexact HO
  isplitl [Hp]; · iexact Hp
  iexact Hz

/-! ## Transfers -/

theorem tile_set {b : Ref sig .tc} (r : Rect b.ty.shape) : ((View.whole b).slice r).set = r.set := View.set_slice_whole b r

/-- What a write through a rectangle of a whole buffer leaves inside it. -/
theorem write_eq (b : Ref sig .tc) (r : Rect b.ty.shape) (f : b.ty.Contents (Elt F)) (w : r.shape.Idx → Elt F b.ty.elt)
    (G : b.ty.Contents (Elt F)) (hw : ∀ x, w x = G (r.emb x)) :
    ∀ i ∈ r.set, ((View.whole b).slice r).write (Elt F) f w Finset.univ i = G i := by
  intro i hi
  rw [← View.set_slice_whole b r] at hi
  obtain ⟨x, -, rfl⟩ := Finset.mem_map.mp hi
  exact (View.write_emb_of_mem _ _ (Finset.mem_univ x)).trans (hw x)

section Core

variable (A : Memref sig .tc .vmem S1024x1024 .bf16) (hA : A.IsWhole) (B : Memref sig .tc .vmem S1024x1024 .bf16) (hB : B.IsWhole)
variable (c p : Dev nD) (κ : Fin 3) (n : Fin 8) (o : Fin 2 → ℕ) (h : TileIn o) (hw : TileWords o h) (l : List Due)

theorem send_core (hN : (tileOf B o h).view.dmaCredit = N) (hp : p = peer c κ n) {q : PosShare TreeShare}
    (fs : Buf (Elt F) ((tileOf A o h).view.loc (c : Thread nD τ))) (fd : Buf (Elt F) ((tileOf B o h).view.loc (p : Thread nD τ)))
    (hs : ((tileOf A o h).view.loc (c : Thread nD τ) ↦[(tileOf A o h).view.set]{q} fs : sProp 𝕄) ⊢ lent m c κ n)
    (hr : ((tileOf B o h).view.loc (p : Thread nD τ) ↦[(tileOf B o h).view.set]{fullShare}
        ((tileOf B o h).view.write (Elt F) fd ((tileOf A o h).view.read (Elt F) fs) Finset.univ) : sProp 𝕄) ⊢ landed m p κ n) (Q : PUnit → sProp 𝕄) :
    iprop(records m K ∗ ((tileOf A o h).view.loc (c : Thread nD τ) ↦[(tileOf A o h).view.set]{q} fs)
        ∗ ((tileOf B o h).view.loc (p : Thread nD τ) ↦[(tileOf B o h).view.set]{fullShare} fd)
        ∗ ow c (.tr κ n :: l) ∗ dutyTok ER (tcell c κ false n) 0 0 ∗ dutyTok ER (tcell p κ true n) 0 0 ∗ atPos ER (tcell c κ false n) 0 ∅ 0)
      ⊢ iprop(((await c κ false n ∗ ow c l) -∗ Q ⟨⟩) -∗ WP c (send A hA B hB p κ n o h hw) Q) := by
  subst hp
  unfold WP send Prog.lift ow await
  iintro ⟨#HR, Hs, Hd, ⟨%W, HO⟩, Ht, Ht', Hat⟩ HQ
  iapply (Rounds.wp_send_pointsTo 𝒱₀ ER (sched m) (c : Thread nD τ) none (κ₁ := K (c, some (κ, false, n))) (κ₂ := K ((peer c κ n), some (κ, true, n)))
    (r₁ := 0) (r₂ := 0) (d₁ := 0) (d₂ := 0) (fs := fs) (fd := fd)
    (by rw [duties_tr]; exact Finset.mem_singleton_self _) (by rw [duties_tr]; exact Finset.mem_singleton_self _)
    () () N (by exact hN) (amount_tr m c κ false n 0) (amount_tr m (peer c κ n) κ true n 0) (debt c l) (by rfl) (W := W)
    (by rw [payload_tr]; exact hs) (by rw [payload_tr]; exact hr)) $$ [Hs Hd HO Ht Ht']
  · isplitr; · iapply (records_inv m K (c, some (κ, false, n))); iexact HR
    isplitr; · iapply (records_inv m K ((peer c κ n), some (κ, true, n))); iexact HR
    isplitl [Hs]; · iexact Hs
    isplitl [Hd]; · iexact Hd
    isplitl [HO]; · iexact HO
    isplitl [Ht]; · iexact Ht
    isplitr; · iapply (records_reached m K (c, some (κ, false, n))); iexact HR
    isplitl [Ht']; · iexact Ht'
    iapply (records_reached m K ((peer c κ n), some (κ, true, n))); iexact HR
  iintro ⟨Hc, HO⟩
  rw [wp_ret]; imodintro
  iapply HQ
  isplitl [Hc Hat]
  · isplitl [Hc]; · iexact Hc
    iexact Hat
  iexists W; iexact HO

/-- Waiting on a transfer's cell hands over what the transfer left there, and the semaphore at zero. -/
theorem wait_spec (r : Bool) (hN : (tileOf B o h).view.dmaCredit = N) (hl : ∀ d ∈ l, slv (.dma (tsem κ r n)) < dlv d) (Q : PUnit → sProp 𝕄) :
    iprop(records m K ∗ await c κ r n ∗ ow c l)
      ⊢ iprop((((bif r then landed m c κ n else lent m c κ n) ∗ zero c κ r n ∗ ow c l) -∗ Q ⟨⟩) -∗ WP c (tWait A hA B hB κ r n o h hw) Q) := by
  unfold WP tWait Prog.lift ow await
  have hE : 0 + (tileOf B o h).view.dmaCredit = (sched (F := F) m).expect (tcell c κ r n) 0 := by rw [expect_tr, Nat.zero_add]; exact hN
  iintro ⟨#HR, ⟨Hc, Hat⟩, ⟨%W, HO⟩⟩ HQ
  iapply (Rounds.wp_wait_rest_token 𝒱₀ ER (sched m) (c : Thread nD τ) none (κ := K (c, some (κ, r, n)))
      (wpE_waitDma2_eq 𝒱₀ (c : Thread nD τ) none Set.univ) (Set.mem_univ _) () (O := debt c l) (W := W) (R := 0) (m := 0) (T := ∅)
      hE) $$ [Hc HO Hat]
  · isplitr; · iapply (records_inv m K (c, some (κ, r, n))); iexact HR
    isplitl [Hc]; · rw [← hN]; iexact Hc
    isplitl [HO]; · iexact HO
    isplitr; · iapply (records_mayWait m K c (.dma (tsem κ r n)) l hl); iexact HR
    iexact Hat
  iintro ⟨HO, Hat, -, Hp⟩
  ihave Hp := (Entails.of_eq (rest_tr m c κ r n)) $$ Hp
  imod (Rounds.cell_close ER (sched m) (Set.mem_univ (K (c, some (κ, r, n)))) (fun h => h) (R := 0 + 1) (duties_later m (tcell c κ r n))) $$ [Hat] with Hz
  · isplitr; · iapply (records_inv m K (c, some (κ, r, n))); iexact HR
    iexact Hat
  rw [wp_ret]; imodintro
  iapply HQ
  isplitl [Hp]; · iexact Hp
  isplitl [Hz]; · iexact Hz
  iexists _; iexact HO

end Core

end Cert.KernelIdeal
-- ==== Proof.Sends.lean ====
module

public import proofs.«01_k».proof.Proof.Steps

/-! The three kinds of transfer between devices: across x, passed on, and local; and their waits. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

theorem set_send {q k : Fin 4} (h : TileIn (tO q k)) : (tileOf vSend (tO q k) h).view.set = tS q k := tile_set (b := cc0_scratch5) _
theorem set_recv {q k : Fin 4} (h : TileIn (tO q k)) : (tileOf vRecv (tO q k) h).view.set = tS q k := tile_set (b := cc0_scratch6) _
theorem set_loc {q k : Fin 4} (h : TileIn (tO q k)) : (tileOf vLoc (tO q k) h).view.set = tS q k := tile_set (b := cc0_scratch7) _

/-- What a device sends across x is what the far device is to receive there. -/
theorem out_x (c : Dev nD) (n : Fin 8) : ∀ i ∈ tS (outQ c 0 n) (col n), SB m c i = RB m (peer c 0 n) i := by
  have h := RB_far m (xp c) (q := outQ c 0 n) (k := col n) (by
    rw [qA_xp, qD_xp]; unfold outQ; split
    · exact .inr rfl
    · exact .inl rfl)
  rw [xp_xp] at h
  exact h
/-- What a device passes on is what the near device is to receive. -/
theorem out_f (c : Dev nD) (n : Fin 8) : ∀ i ∈ tS (outQ c 1 n) (col n), RB m c i = RB m (peer c 1 n) i := by
  have e : outQ c 1 n = qA c := if_neg fun h => absurd h.1 (by decide)
  rw [e]; unfold peer; rw [if_neg (by decide)]; split
  · exact RB_z m c (col n)
  · exact RB_y m c (col n)
/-- What a device sends to a near one is what that one is to receive locally. -/
theorem out_l (c : Dev nD) (n : Fin 8) : ∀ i ∈ tS (outQ c 2 n) (col n), SB m c i = RL m (peer c 2 n) i := by
  have e : outQ c 2 n = qA c := if_neg fun h => absurd h.1 (by decide)
  rw [e]; unfold peer; rw [if_neg (by decide)]; split
  · exact RL_z m c (col n)
  · exact RL_y m c (col n)

section

variable (c p : Dev nD) (n : Fin 8) (o : Fin 2 → ℕ) (h : TileIn o) (hw : TileWords o h) (l : List Due)

theorem send_x (hp : p = peer c 0 n) (ho : o = tO (outQ c 0 n) (col n)) (Q : PUnit → sProp 𝕄) :
    iprop(records m K ∗ lent m c 0 n ∗ ready c 0 n ∗ ow c (.tr 0 n :: l))
      ⊢ iprop(((await c 0 false n ∗ ow c l) -∗ Q ⟨⟩) -∗ WP c (send vSend hSend vRecv hRecv p 0 n o h hw) Q) := by
  subst ho; subst hp
  have e1 : (lent m c 0 n : sProp 𝕄) = ((tileOf vSend (tO (outQ c 0 n) (col n)) h).view.loc (c : Thread nD τ)
      ↦[(tileOf vSend (tO (outQ c 0 n) (col n)) h).view.set]{part 0 n} SB m c) := by rw [set_send]; exact if_neg (by decide)
  unfold ready hole
  rw [if_neg (by decide), inQ_peer, e1]
  iintro ⟨HR, Hs, ⟨⟨%fd, Hd⟩, Ht, Ht', Hat⟩, HO⟩
  have e2 : tRecv (peer c 0 n) (outQ c 0 n) (col n) fullShare fd = ((tileOf vRecv (tO (outQ c 0 n) (col n)) h).view.loc (peer c 0 n : Thread nD τ)
      ↦[(tileOf vRecv (tO (outQ c 0 n) (col n)) h).view.set]{fullShare} fd : sProp 𝕄) := by rw [set_recv]
  ihave Hd := (Entails.of_eq e2) $$ Hd
  iapply (send_core m K vSend hSend vRecv hRecv c (peer c 0 n) 0 n _ h hw l rfl rfl (SB m c) fd (Entails.of_eq e1.symm) (by
    unfold landed
    rw [if_neg (by decide), inQ_peer, set_recv]
    refine Entails.of_eq (pointsTo_congr fun i hi => ?_)
    exact write_eq cc0_scratch6 _ fd _ (RB m (peer c 0 n)) (fun x => out_x m c n _ (LoadRect.idx_mem _ x)) i hi) Q)
  isplitl [HR]; · iexact HR
  isplitl [Hs]; · iexact Hs
  isplitl [Hd]; · iexact Hd
  isplitl [HO]; · iexact HO
  isplitl [Ht]; · iexact Ht
  isplitl [Ht']; · iexact Ht'
  iexact Hat

theorem send_f (hp : p = peer c 1 n) (ho : o = tO (outQ c 1 n) (col n)) (Q : PUnit → sProp 𝕄) :
    iprop(records m K ∗ lent m c 1 n ∗ ready c 1 n ∗ ow c (.tr 1 n :: l))
      ⊢ iprop(((await c 1 false n ∗ ow c l) -∗ Q ⟨⟩) -∗ WP c (send vRecv hRecv vRecv hRecv p 1 n o h hw) Q) := by
  subst ho; subst hp
  have e1 : (lent m c 1 n : sProp 𝕄) = ((tileOf vRecv (tO (outQ c 1 n) (col n)) h).view.loc (c : Thread nD τ)
      ↦[(tileOf vRecv (tO (outQ c 1 n) (col n)) h).view.set]{part 1 n} RB m c) := by rw [set_recv]; exact if_pos rfl
  unfold ready hole
  rw [if_neg (by decide), inQ_peer, e1]
  iintro ⟨HR, Hs, ⟨⟨%fd, Hd⟩, Ht, Ht', Hat⟩, HO⟩
  have e2 : tRecv (peer c 1 n) (outQ c 1 n) (col n) fullShare fd = ((tileOf vRecv (tO (outQ c 1 n) (col n)) h).view.loc (peer c 1 n : Thread nD τ)
      ↦[(tileOf vRecv (tO (outQ c 1 n) (col n)) h).view.set]{fullShare} fd : sProp 𝕄) := by rw [set_recv]
  ihave Hd := (Entails.of_eq e2) $$ Hd
  iapply (send_core m K vRecv hRecv vRecv hRecv c (peer c 1 n) 1 n _ h hw l rfl rfl (RB m c) fd (Entails.of_eq e1.symm) (by
    unfold landed
    rw [if_neg (by decide), inQ_peer, set_recv]
    refine Entails.of_eq (pointsTo_congr fun i hi => ?_)
    exact write_eq cc0_scratch6 _ fd _ (RB m (peer c 1 n)) (fun x => out_f m c n _ (LoadRect.idx_mem _ x)) i hi) Q)
  isplitl [HR]; · iexact HR
  isplitl [Hs]; · iexact Hs
  isplitl [Hd]; · iexact Hd
  isplitl [HO]; · iexact HO
  isplitl [Ht]; · iexact Ht
  isplitl [Ht']; · iexact Ht'
  iexact Hat

theorem send_l (hp : p = peer c 2 n) (ho : o = tO (outQ c 2 n) (col n)) (Q : PUnit → sProp 𝕄) :
    iprop(records m K ∗ lent m c 2 n ∗ ready c 2 n ∗ ow c (.tr 2 n :: l))
      ⊢ iprop(((await c 2 false n ∗ ow c l) -∗ Q ⟨⟩) -∗ WP c (send vSend hSend vLoc hLoc p 2 n o h hw) Q) := by
  subst ho; subst hp
  have e1 : (lent m c 2 n : sProp 𝕄) = ((tileOf vSend (tO (outQ c 2 n) (col n)) h).view.loc (c : Thread nD τ)
      ↦[(tileOf vSend (tO (outQ c 2 n) (col n)) h).view.set]{part 2 n} SB m c) := by rw [set_send]; exact if_neg (by decide)
  unfold ready hole
  rw [if_pos rfl, inQ_peer, e1]
  iintro ⟨HR, Hs, ⟨⟨%fd, Hd⟩, Ht, Ht', Hat⟩, HO⟩
  have e2 : tLoc (peer c 2 n) (outQ c 2 n) (col n) fullShare fd = ((tileOf vLoc (tO (outQ c 2 n) (col n)) h).view.loc (peer c 2 n : Thread nD τ)
      ↦[(tileOf vLoc (tO (outQ c 2 n) (col n)) h).view.set]{fullShare} fd : sProp 𝕄) := by rw [set_loc]
  ihave Hd := (Entails.of_eq e2) $$ Hd
  iapply (send_core m K vSend hSend vLoc hLoc c (peer c 2 n) 2 n _ h hw l rfl rfl (SB m c) fd (Entails.of_eq e1.symm) (by
    unfold landed
    rw [if_pos rfl, inQ_peer, set_loc]
    refine Entails.of_eq (pointsTo_congr fun i hi => ?_)
    exact write_eq cc0_scratch7 _ fd _ (RL m (peer c 2 n)) (fun x => out_l m c n _ (LoadRect.idx_mem _ x)) i hi) Q)
  isplitl [HR]; · iexact HR
  isplitl [Hs]; · iexact Hs
  isplitl [Hd]; · iexact Hd
  isplitl [HO]; · iexact HO
  isplitl [Ht]; · iexact Ht
  isplitl [Ht']; · iexact Ht'
  iexact Hat

end

end Cert.KernelIdeal
-- ==== Proof.Local.lean ====
module

public import proofs.«01_k».proof.Proof.Steps

/-! The steps inside a device: the copies in and out, the roundings, the products and the sums. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-- What was written through a rectangle, read back as the array it is part of. -/
theorem fill (c : Dev nD) (b : Ref sig .tc) (r : Rect b.ty.shape) (f : b.ty.Contents (Elt F)) (w : r.shape.Idx → Elt F b.ty.elt)
    (G : b.ty.Contents (Elt F)) (hw : ∀ x, w x = G (r.emb x)) :
    ((c : Thread nD τ).loc b ↦[r.set]{fullShare} ((View.whole b).slice r).write (Elt F) f w Finset.univ : sProp 𝕄)
      ⊢ (c : Thread nD τ).loc b ↦[r.set]{fullShare} G :=
  Entails.of_eq (pointsTo_congr (write_eq b r f w G hw))

/-! ## Copies -/

/-- A copy under way on a semaphore, that will leave `P`. -/
def fly (c : Dev nD) (i : Fin 10) (n : ℕ) (P : sProp 𝕄) : sProp 𝕄 :=
  iprop(∃ D : sProp 𝕄, ⌜D ⊢ P⌝ ∗ Transfers.Flight EC (c : Thread nD τ) (.dma (lsem i)) () n D)

theorem copy_go (c : Dev nD) (i : Fin 10) {sp sp' : Space} {s : Shape} {e : EltTy}
    (src : Memref sig .tc sp s e) (dst : Memref sig .tc sp' s e) (h1 : src.view.WordExact) (h2 : dst.view.WordExact)
    (h3 : DmaTarget.Typed sp (.dma (lsem i)) (.here dst : DmaTarget nD τ sig (Proc.tc : Proc τ) sp' s e)) (n : ℕ) (hn : dst.view.dmaCredit = n) (hn0 : 0 < n) {q : PosShare TreeShare}
    (fs : Buf (Elt F) (src.view.loc (c : Thread nD τ))) (fd : Buf (Elt F) (dst.view.loc (c : Thread nD τ))) (P : sProp 𝕄)
    (hP : iprop((dst.view.loc (c : Thread nD τ) ↦[dst.view.set]{fullShare} (dst.view.write (Elt F) fd (src.view.read (Elt F) fs) Finset.univ))
      ∗ (src.view.loc (c : Thread nD τ) ↦[src.view.set]{q} fs)) ⊢ P) (Q : PUnit → sProp 𝕄) :
    iprop((src.view.loc (c : Thread nD τ) ↦[src.view.set]{q} fs) ∗ (dst.view.loc (c : Thread nD τ) ↦[dst.view.set]{fullShare} fd) ∗ semVal (lcell c i) 0)
      ⊢ iprop((fly c i n P -∗ Q ⟨⟩) -∗ WP c (Prog.lift (.enqueueDma src (.here dst) (.dma (lsem i)) h1 h2 h3)) Q) := by
  unfold WP Prog.lift fly
  iintro H HQ
  iapply (Transfers.wp_dmaLocal EC 𝒱₀ (c : Thread nD τ) none () n (by exact hn) hn0 (Finset.Subset.refl _)) $$ H
  iintro HF
  rw [wp_ret]; imodintro
  iapply HQ
  iexists _
  isplitr; · ipureintro; exact hP
  iexact HF

theorem copy_wait (c : Dev nD) (i : Fin 10) {sp sp' : Space} {s : Shape} {e : EltTy}
    (src : Memref sig .tc sp s e) (dst : Memref sig .tc sp' s e) (h1 : src.view.WordExact) (h2 : dst.view.WordExact)
    (n : ℕ) (hn : dst.view.dmaCredit = n) (P : sProp 𝕄) (l : List Due) (Q : PUnit → sProp 𝕄) :
    iprop(records m K ∗ fly c i n P ∗ ow c l)
      ⊢ iprop(((P ∗ semVal (lcell c i) 0 ∗ ow c l) -∗ Q ⟨⟩) -∗ WP c (Prog.lift (.waitDma2 (lsem i) src dst h1 h2)) Q) := by
  unfold WP Prog.lift fly ow
  iintro ⟨HR, ⟨%D, %hD, HF⟩, ⟨%W, HO⟩⟩ HQ
  iapply (Transfers.wp_waitLocalO EC 𝒱₀ (c : Thread nD τ) none () hn (O := debt c l) (W := W)) $$ [HR HF HO]
  · isplitl [HF]; · iexact HF
    isplitl [HO]; · iexact HO
    iapply (records_mayWait m K c (.dma (lsem i)) l (fun d _ => by rw [slv_local]; exact dlv_pos d)); iexact HR
  iintro ⟨HD, Hz, HO⟩
  rw [wp_ret]; imodintro
  iapply HQ
  isplitl [HD]; · iapply hD; iexact HD
  isplitl [Hz]; · iexact Hz
  iexists _; iexact HO

/-- The bytes' credit of 256 rows of an argument, and of the result. -/
def NW : ℕ := (vW.slice (wideR (rO 0) (wIn 0)) (fun _ => rfl)).view.dmaCredit
def NR : ℕ := (bRes.slice (rowsR (rO 0) (rIn 0)) (fun _ => rfl)).view.dmaCredit
theorem NW_pos : 0 < NW := View.dmaCredit_pos _ (by decide)
theorem NR_pos : 0 < NR := View.dmaCredit_pos _ (by decide)

section Bufs

variable (c : Dev nD)

abbrev pDy (q : Fin 4) (f : Buf (Elt F) ((c : Thread nD τ).loc main_arg0)) : sProp 𝕄 := ((c : Thread nD τ).loc main_arg0) ↦[wS q]{fullShare} f
abbrev pW (k : Fin 4) (f : Buf (Elt F) ((c : Thread nD τ).loc main_arg1)) : sProp 𝕄 := ((c : Thread nD τ).loc main_arg1) ↦[wS k]{fullShare} f
abbrev pRes (q : Fin 4) (f : Buf (Elt F) ((c : Thread nD τ).loc main_v1)) : sProp 𝕄 := ((c : Thread nD τ).loc main_v1) ↦[rS q]{fullShare} f
abbrev lW (k : Fin 4) (f : Buf (Elt F) ((c : Thread nD τ).loc cc0_scratch0)) : sProp 𝕄 := ((c : Thread nD τ).loc cc0_scratch0) ↦[wS k]{fullShare} f
abbrev lWb (k : Fin 4) (f : Buf (Elt F) ((c : Thread nD τ).loc cc0_scratch2)) : sProp 𝕄 := ((c : Thread nD τ).loc cc0_scratch2) ↦[wS k]{fullShare} f
abbrev lDy (q : Fin 4) (f : Buf (Elt F) ((c : Thread nD τ).loc cc0_scratch3)) : sProp 𝕄 := ((c : Thread nD τ).loc cc0_scratch3) ↦[wS q]{fullShare} f
abbrev lDb (f : Buf (Elt F) ((c : Thread nD τ).loc cc0_scratch4)) : sProp 𝕄 := ((c : Thread nD τ).loc cc0_scratch4) ↦{fullShare} f
abbrev rOut (q : Fin 4) (f : Buf (Elt F) ((c : Thread nD τ).loc cc0_scratch1)) : sProp 𝕄 := ((c : Thread nD τ).loc cc0_scratch1) ↦[rS q]{fullShare} f
abbrev rRecv (q : Fin 4) (f : Buf (Elt F) ((c : Thread nD τ).loc cc0_scratch6)) : sProp 𝕄 := ((c : Thread nD τ).loc cc0_scratch6) ↦[rS q]{fullShare} f
abbrev rLoc (q : Fin 4) (f : Buf (Elt F) ((c : Thread nD τ).loc cc0_scratch7)) : sProp 𝕄 := ((c : Thread nD τ).loc cc0_scratch7) ↦[rS q]{fullShare} f

end Bufs

section Copies

variable (c : Dev nD) (i : Fin 10) (o : Fin 2 → ℕ) (l : List Due)

theorem dy_go (h : WideIn o) (q : Fin 4) (ho : o = rO q) (Q : PUnit → sProp 𝕄) :
    iprop(pDy c q (dyB m c) ∗ (∃ f, lDy c q f) ∗ semVal (lcell c i) 0)
      ⊢ iprop((fly c i NW iprop(lDy c q (dyB m c) ∗ pDy c q (dyB m c)) -∗ Q ⟨⟩) -∗ WP c (inGo bDy vDy (lsem i) o h) Q) := by
  subst ho
  have e0 : (bDy.slice (wideR (rO q) h) (fun _ => rfl)).view.set = wS q := tile_set (b := main_arg0) _
  have e1 : (vDy.slice (wideR (rO q) h) (fun _ => rfl)).view.set = wS q := tile_set (b := cc0_scratch3) _
  iintro ⟨Hs, ⟨%fd, Hd⟩, Hz⟩
  have H := copy_go c i (bDy.slice (wideR (rO q) h) (fun _ => rfl)) (vDy.slice (wideR (rO q) h) (fun _ => rfl)) (View.wordExact_bits rfl) (View.wordExact_bits rfl)
    ⟨Or.inl rfl, trivial⟩ NW rfl NW_pos (q := fullShare) (dyB m c) fd iprop(lDy c q (dyB m c) ∗ pDy c q (dyB m c)) (by
      rw [e0, e1]
      exact sep_mono (fill c cc0_scratch3 _ fd _ (dyB m c) (fun _ => rfl)) Entails.rfl) Q
  rw [e0, e1] at H
  iapply H
  isplitl [Hs]; · iexact Hs
  isplitl [Hd]; · iexact Hd
  iexact Hz

theorem w_go (h : WideIn o) (q : Fin 4) (ho : o = rO q) (Q : PUnit → sProp 𝕄) :
    iprop(pW c q (wB m c) ∗ (∃ f, lW c q f) ∗ semVal (lcell c i) 0)
      ⊢ iprop((fly c i NW iprop(lW c q (wB m c) ∗ pW c q (wB m c)) -∗ Q ⟨⟩) -∗ WP c (inGo bW vW (lsem i) o h) Q) := by
  subst ho
  have e0 : (bW.slice (wideR (rO q) h) (fun _ => rfl)).view.set = wS q := tile_set (b := main_arg1) _
  have e1 : (vW.slice (wideR (rO q) h) (fun _ => rfl)).view.set = wS q := tile_set (b := cc0_scratch0) _
  iintro ⟨Hs, ⟨%fd, Hd⟩, Hz⟩
  have H := copy_go c i (bW.slice (wideR (rO q) h) (fun _ => rfl)) (vW.slice (wideR (rO q) h) (fun _ => rfl)) (View.wordExact_bits rfl) (View.wordExact_bits rfl)
    ⟨Or.inl rfl, trivial⟩ NW rfl NW_pos (q := fullShare) (wB m c) fd iprop(lW c q (wB m c) ∗ pW c q (wB m c)) (by
      rw [e0, e1]
      exact sep_mono (fill c cc0_scratch0 _ fd _ (wB m c) (fun _ => rfl)) Entails.rfl) Q
  rw [e0, e1] at H
  iapply H
  isplitl [Hs]; · iexact Hs
  isplitl [Hd]; · iexact Hd
  iexact Hz

theorem in_wait (A : Memref sig .tc .hbm S1024x4096 .f32) (B : Memref sig .tc .vmem S1024x4096 .f32) (h : WideIn o)
    (hn : (B.slice (wideR o h) (fun _ => rfl)).view.dmaCredit = NW) (P : sProp 𝕄) (Q : PUnit → sProp 𝕄) :
    iprop(records m K ∗ fly c i NW P ∗ ow c l)
      ⊢ iprop(((P ∗ semVal (lcell c i) 0 ∗ ow c l) -∗ Q ⟨⟩) -∗ WP c (inWait A B (lsem i) o h) Q) :=
  copy_wait m K c i (A.slice (wideR o h) (fun _ => rfl)) (B.slice (wideR o h) (fun _ => rfl)) (View.wordExact_bits rfl) (View.wordExact_bits rfl) NW hn P l Q

/-- The semaphore of a copy out. -/
abbrev os (i : Fin 4) : Fin 10 := ⟨6 + i.val, by omega⟩

theorem out_go (j : Fin 4) (h : RowsIn o) (q : Fin 4) (ho : o = rO q) (Q : PUnit → sProp 𝕄) :
    iprop(rOut c q (OUT m c) ∗ (∃ f, pRes c q f) ∗ semVal (lcell c (os j)) 0)
      ⊢ iprop((fly c (os j) NR iprop(pRes c q (OUT m c) ∗ rOut c q (OUT m c)) -∗ Q ⟨⟩) -∗ WP c (outGo j o h) Q) := by
  subst ho
  have e0 : (vOut.slice (rowsR (rO q) h) (fun _ => rfl)).view.set = rS q := tile_set (b := cc0_scratch1) _
  have e1 : (bRes.slice (rowsR (rO q) h) (fun _ => rfl)).view.set = rS q := tile_set (b := main_v1) _
  iintro ⟨Hs, ⟨%fd, Hd⟩, Hz⟩
  have H := copy_go c (os j) (vOut.slice (rowsR (rO q) h) (fun _ => rfl)) (bRes.slice (rowsR (rO q) h) (fun _ => rfl)) (View.wordExact_bits rfl) (View.wordExact_bits rfl)
    ⟨Or.inl rfl, trivial⟩ NR rfl NR_pos (q := fullShare) (OUT m c) fd iprop(pRes c q (OUT m c) ∗ rOut c q (OUT m c)) (by
      rw [e0, e1]
      exact sep_mono (fill c main_v1 _ fd _ (OUT m c) (fun _ => rfl)) Entails.rfl) Q
  rw [e0, e1] at H
  iapply H
  isplitl [Hs]; · iexact Hs
  isplitl [Hd]; · iexact Hd
  iexact Hz

theorem out_wait (j : Fin 4) (h : RowsIn o) (P : sProp 𝕄) (Q : PUnit → sProp 𝕄) :
    iprop(records m K ∗ fly c (os j) NR P ∗ ow c l)
      ⊢ iprop(((P ∗ semVal (lcell c (os j)) 0 ∗ ow c l) -∗ Q ⟨⟩) -∗ WP c (outWait j o h) Q) :=
  copy_wait m K c (os j) (vOut.slice (rowsR o h) (fun _ => rfl)) (bRes.slice (rowsR o h) (fun _ => rfl)) (View.wordExact_bits rfl) (View.wordExact_bits rfl) NR rfl P l Q

end Copies

/-! ## Arithmetic -/

section Arith

variable (c : Dev nD) (o : Fin 2 → ℕ)

theorem zero_off : (![0, 0] : Fin 2 → ℕ) = fun _ => 0 := by funext a; fin_cases a <;> rfl

theorem dy_cast (h : WideIn o) (q : Fin 4) (ho : o = rO q) (Q : PUnit → sProp 𝕄) :
    iprop(lDy c q (dyB m c) ∗ (∃ f, lDb c f))
      ⊢ iprop(((lDy c q (dyB m c) ∗ lDb c (dyQ m c q)) -∗ Q ⟨⟩) -∗ WP c (dyCast o h) Q) := by
  subst ho
  unfold WP dyCast lDy lDb
  simp only [Prog.lift, Prog.bind_op, Prog.bind_ret, Prog.pure_eq_ret]
  iintro ⟨Hs, ⟨%f, Hd⟩⟩ HQ
  iapply (wp_load_rect 𝒱₀ (c : Thread nD τ) none Set.univ (m := vDy) (r := wideR (rO q) h) (f := dyB m c) (S := wS q) (tile_set (b := cc0_scratch3) _).le) $$ Hs
  iintro Hs
  iapply (wp_load_rect 𝒱₀ (c : Thread nD τ) none Set.univ (m := vDb) (r := allR) (f := f) (S := Finset.univ) (Finset.subset_univ _)) $$ Hd
  iintro Hd
  iapply (wp_store 𝒱₀ (c : Thread nD τ) none Set.univ (m := vDb) (r := allR) (Mk := Finset.univ) (f := f) (S := Finset.univ) (Finset.subset_univ _)) $$ Hd
  iintro Hd
  rw [wp_ret]; imodintro
  iapply HQ
  isplitl [Hs]; · iexact Hs
  have e : (vDb.access allR).write (Elt F) f (dyQ m c q) Finset.univ = dyQ m c q :=
    Memref.write_access_unit_zero_univ (Elt F) cc0_scratch4 zero_off _ _ _
  have e' : ((c : Thread nD τ).loc cc0_scratch4 ↦{fullShare} (vDb.access allR).write (Elt F) f (dyQ m c q) Finset.univ : sProp 𝕄)
    ⊢ (c : Thread nD τ).loc cc0_scratch4 ↦{fullShare} dyQ m c q := Entails.of_eq (by rw [e])
  iapply e'; iexact Hd

theorem w_cast (h : WideIn o) (hp : WidePacked o h) (k : Fin 4) (ho : o = rO k) (Q : PUnit → sProp 𝕄) :
    iprop(lW c k (wB m c) ∗ (∃ f, lWb c k f))
      ⊢ iprop(((lW c k (wB m c) ∗ lWb c k (Wb m c)) -∗ Q ⟨⟩) -∗ WP c (wCast o h hp) Q) := by
  subst ho
  unfold WP wCast
  simp only [Prog.lift, Prog.bind_op, Prog.bind_ret, Prog.pure_eq_ret]
  iintro ⟨Hs, ⟨%f, Hd⟩⟩ HQ
  iapply (wp_load_rect 𝒱₀ (c : Thread nD τ) none Set.univ (m := vW) (r := wideR (rO k) h) (f := wB m c) (S := wS k) (tile_set (b := cc0_scratch0) _).le) $$ Hs
  iintro Hs
  iapply (wp_load_rect 𝒱₀ (c : Thread nD τ) none Set.univ (m := vWb) (r := wideR (rO k) h) (f := f) (S := wS k) (tile_set (b := cc0_scratch2) _).le) $$ Hd
  iintro Hd
  iapply (wp_store 𝒱₀ (c : Thread nD τ) none Set.univ (m := vWb) (r := wideR (rO k) h) (Mk := Finset.univ) (f := f) (S := wS k) (tile_set (b := cc0_scratch2) _).le) $$ Hd
  iintro Hd
  rw [wp_ret]; imodintro
  iapply HQ
  isplitl [Hs]; · iexact Hs
  have e := fill c cc0_scratch2 (wideR (rO k) h) f (Gen.k0_pay2 (rd (wideR (rO k) h) (wB m c))) (Wb m c) (fun x => (congrFun (rd_Wb m c k) x).symm)
  iapply e; iexact Hd

theorem dot_spec (ow : Fin 2 → ℕ) (hw : WideIn ow) (h : TileIn o) (hp : TilePacked o h) (q k : Fin 4) (how : ow = rO k) (ho : o = tO q k) (Q : PUnit → sProp 𝕄) :
    iprop(lDb c (dyQ m c q) ∗ lWb c k (Wb m c) ∗ (∃ f, tOut c q k f) ∗ (∃ f, tSend c q k fullShare f))
      ⊢ iprop(((lDb c (dyQ m c q) ∗ lWb c k (Wb m c) ∗ tOut c q k (PA m c) ∗ tSend c q k fullShare (SB m c)) -∗ Q ⟨⟩) -∗ WP c (dot ow hw o h hp) Q) := by
  subst how; subst ho
  unfold WP dot lDb
  simp only [Prog.lift, Prog.bind_op, Prog.bind_ret, Prog.pure_eq_ret]
  iintro ⟨Hb, Hw, ⟨%f, Hd⟩, ⟨%f', Hd'⟩⟩ HQ
  iapply (wp_load_rect 𝒱₀ (c : Thread nD τ) none Set.univ (m := vDb) (r := allR) (f := dyQ m c q) (S := Finset.univ) (Finset.subset_univ _)) $$ Hb
  iintro Hb
  iapply (wp_load_rect 𝒱₀ (c : Thread nD τ) none Set.univ (m := vWb) (r := wideR (rO k) hw) (f := Wb m c) (S := wS k) (tile_set (b := cc0_scratch2) _).le) $$ Hw
  iintro Hw
  iapply (wp_load_rect 𝒱₀ (c : Thread nD τ) none Set.univ (m := vOut) (r := tileR (tO q k) h) (f := f) (S := tS q k) (tile_set (b := cc0_scratch1) _).le) $$ Hd
  iintro Hd
  iapply (wp_store 𝒱₀ (c : Thread nD τ) none Set.univ (m := vOut) (r := tileR (tO q k) h) (Mk := Finset.univ) (f := f) (S := tS q k) (tile_set (b := cc0_scratch1) _).le) $$ Hd
  iintro Hd
  iapply (wp_load_rect 𝒱₀ (c : Thread nD τ) none Set.univ (m := vSend) (r := tileR (tO q k) h) (f := f') (S := tS q k) (tile_set (b := cc0_scratch5) _).le) $$ Hd'
  iintro Hd'
  iapply (wp_store 𝒱₀ (c : Thread nD τ) none Set.univ (m := vSend) (r := tileR (tO q k) h) (Mk := Finset.univ) (f := f') (S := tS q k) (tile_set (b := cc0_scratch5) _).le) $$ Hd'
  iintro Hd'
  rw [wp_ret]; imodintro
  have ea : ((vDb.access allR).read (Elt F) (dyQ m c q)) = dyQ m c q := Memref.readAt_unit_zero (Elt F) cc0_scratch4 zero_off _ _
  have eb : ((vWb.access (wideR (rO k) hw)).read (Elt F) (Wb m c)) = wQ m c k := rd_Wb m c k
  rw [ea, eb]
  have e := fill c cc0_scratch1 (tileR (tO q k) h) f (Gen.k0_pay4 (dyQ m c q) (wQ m c k)) (PA m c) (fun x => (congrFun (rd_PA m c q k) x).symm)
  have e' := fill c cc0_scratch5 (tileR (tO q k) h) f' (Gen.k0_pay5 (dyQ m c q) (wQ m c k)) (SB m c) (fun x => (congrFun (rd_SB m c q k) x).symm)
  iapply HQ
  isplitl [Hb]; · iexact Hb
  isplitl [Hw]; · iexact Hw
  isplitl [Hd]; · iapply e; iexact Hd
  iapply e'; iexact Hd'

theorem add_tile_spec (h : TileIn o) (k : Fin 4) (ho : o = tO (qA c) k) (p : PosShare TreeShare) (Q : PUnit → sProp 𝕄) :
    iprop(tOut c (qA c) k (PA m c) ∗ tRecv c (qA c) k p (RB m c))
      ⊢ iprop(((tOut c (qA c) k (OUT m c) ∗ tRecv c (qA c) k p (RB m c)) -∗ Q ⟨⟩) -∗ WP c (addTile o h) Q) := by
  subst ho
  unfold WP addTile
  simp only [Prog.lift, Prog.bind_op, Prog.bind_ret, Prog.pure_eq_ret]
  iintro ⟨Hd, Hs⟩ HQ
  iapply (wp_load_rect 𝒱₀ (c : Thread nD τ) none Set.univ (m := vOut) (r := tileR (tO (qA c) k) h) (f := PA m c) (S := tS (qA c) k) (tile_set (b := cc0_scratch1) _).le) $$ Hd
  iintro Hd
  iapply (wp_load_rect 𝒱₀ (c : Thread nD τ) none Set.univ (m := vRecv) (r := tileR (tO (qA c) k) h) (f := RB m c) (S := tS (qA c) k) (tile_set (b := cc0_scratch6) _).le) $$ Hs
  iintro Hs
  iapply (wp_load_rect 𝒱₀ (c : Thread nD τ) none Set.univ (m := vOut) (r := tileR (tO (qA c) k) h) (f := PA m c) (S := tS (qA c) k) (tile_set (b := cc0_scratch1) _).le) $$ Hd
  iintro Hd
  iapply (wp_store 𝒱₀ (c : Thread nD τ) none Set.univ (m := vOut) (r := tileR (tO (qA c) k) h) (Mk := Finset.univ) (f := PA m c) (S := tS (qA c) k) (tile_set (b := cc0_scratch1) _).le) $$ Hd
  iintro Hd
  rw [wp_ret]; imodintro
  have e := fill c cc0_scratch1 (tileR (tO (qA c) k) h) (PA m c) (Gen.k0_pay22 (rd (tileR (tO (qA c) k) h) (PA m c)) (rd (tileR (tO (qA c) k) h) (RB m c))) (OUT m c)
      (fun x => congrFun (add_tile m c k) x)
  iapply HQ
  isplitl [Hd]; · iapply e; iexact Hd
  iexact Hs

theorem add_rows_spec (h : RowsIn o) (ho : o = rO (qD c)) (Q : PUnit → sProp 𝕄) :
    iprop(rOut c (qD c) (PA m c) ∗ rRecv c (qD c) (RB m c))
      ⊢ iprop(((rOut c (qD c) (OUT m c) ∗ rRecv c (qD c) (RB m c)) -∗ Q ⟨⟩) -∗ WP c (addRows o h) Q) := by
  subst ho
  unfold WP addRows
  simp only [Prog.lift, Prog.bind_op, Prog.bind_ret, Prog.pure_eq_ret]
  iintro ⟨Hd, Hs⟩ HQ
  iapply (wp_load_rect 𝒱₀ (c : Thread nD τ) none Set.univ (m := vOut) (r := rowsR (rO (qD c)) h) (f := PA m c) (S := rS (qD c)) (tile_set (b := cc0_scratch1) _).le) $$ Hd
  iintro Hd
  iapply (wp_load_rect 𝒱₀ (c : Thread nD τ) none Set.univ (m := vRecv) (r := rowsR (rO (qD c)) h) (f := RB m c) (S := rS (qD c)) (tile_set (b := cc0_scratch6) _).le) $$ Hs
  iintro Hs
  iapply (wp_load_rect 𝒱₀ (c : Thread nD τ) none Set.univ (m := vOut) (r := rowsR (rO (qD c)) h) (f := PA m c) (S := rS (qD c)) (tile_set (b := cc0_scratch1) _).le) $$ Hd
  iintro Hd
  iapply (wp_store 𝒱₀ (c : Thread nD τ) none Set.univ (m := vOut) (r := rowsR (rO (qD c)) h) (Mk := Finset.univ) (f := PA m c) (S := rS (qD c)) (tile_set (b := cc0_scratch1) _).le) $$ Hd
  iintro Hd
  rw [wp_ret]; imodintro
  have e := fill c cc0_scratch1 (rowsR (rO (qD c)) h) (PA m c) (Gen.k0_pay35 (rd (rowsR (rO (qD c)) h) (PA m c)) (rd (rowsR (rO (qD c)) h) (RB m c))) (OUT m c)
      (fun x => congrFun (add_rows m c) x)
  iapply HQ
  isplitl [Hd]; · iapply e; iexact Hd
  iexact Hs

theorem sum_rows_spec (h : RowsIn o) (q : Fin 4) (hq : q = qY c ∨ q = qZ c) (ho : o = rO q) (Q : PUnit → sProp 𝕄) :
    iprop((∃ f, rOut c q f) ∗ rLoc c q (RL m c) ∗ rRecv c q (RB m c))
      ⊢ iprop(((rOut c q (OUT m c) ∗ rLoc c q (RL m c) ∗ rRecv c q (RB m c)) -∗ Q ⟨⟩) -∗ WP c (sumRows o h) Q) := by
  subst ho
  unfold WP sumRows
  simp only [Prog.lift, Prog.bind_op, Prog.bind_ret, Prog.pure_eq_ret]
  iintro ⟨⟨%f, Hd⟩, Hl, Hs⟩ HQ
  iapply (wp_load_rect 𝒱₀ (c : Thread nD τ) none Set.univ (m := vLoc) (r := rowsR (rO q) h) (f := RL m c) (S := rS q) (tile_set (b := cc0_scratch7) _).le) $$ Hl
  iintro Hl
  iapply (wp_load_rect 𝒱₀ (c : Thread nD τ) none Set.univ (m := vRecv) (r := rowsR (rO q) h) (f := RB m c) (S := rS q) (tile_set (b := cc0_scratch6) _).le) $$ Hs
  iintro Hs
  iapply (wp_load_rect 𝒱₀ (c : Thread nD τ) none Set.univ (m := vOut) (r := rowsR (rO q) h) (f := f) (S := rS q) (tile_set (b := cc0_scratch1) _).le) $$ Hd
  iintro Hd
  iapply (wp_store 𝒱₀ (c : Thread nD τ) none Set.univ (m := vOut) (r := rowsR (rO q) h) (Mk := Finset.univ) (f := f) (S := rS q) (tile_set (b := cc0_scratch1) _).le) $$ Hd
  iintro Hd
  rw [wp_ret]; imodintro
  have e := fill c cc0_scratch1 (rowsR (rO q) h) f (Gen.k0_pay36 (rd (rowsR (rO q) h) (RL m c)) (rd (rowsR (rO q) h) (RB m c))) (OUT m c)
      (fun x => congrFun (sum_rows m c hq) x)
  iapply HQ
  isplitl [Hd]; · iapply e; iexact Hd
  isplitl [Hl]; · iexact Hl
  iexact Hs

end Arith

end Cert.KernelIdeal
-- ==== Proof.Columns.lean ====
module

public import proofs.«01_k».proof.Proof.Sends
public import proofs.«01_k».proof.Proof.Local

/-! The stretches of one column: its sends, its passing on, its arrivals. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## Slots, spelled out -/

theorem outQ_x_lo (c : Dev nD) (k : Fin 4) : outQ c 0 (lo k) = qA c := by unfold outQ; rw [late_lo]; rfl
theorem outQ_x_hi (c : Dev nD) (k : Fin 4) : outQ c 0 (hi k) = qD c := by unfold outQ; rw [late_hi]; rfl
theorem outQ_near (c : Dev nD) {κ : Fin 3} (hκ : κ ≠ 0) (n : Fin 8) : outQ c κ n = qA c := if_neg fun h => hκ h.1
theorem inQ_x_lo (c : Dev nD) (k : Fin 4) : inQ c 0 (lo k) = qA c := by unfold inQ; rw [if_pos rfl, outQ_x_lo]
theorem inQ_x_hi (c : Dev nD) (k : Fin 4) : inQ c 0 (hi k) = qD c := by unfold inQ; rw [if_pos rfl, outQ_x_hi]
theorem inQ_lo (c : Dev nD) {κ : Fin 3} (hκ : κ ≠ 0) (k : Fin 4) : inQ c κ (lo k) = qY c := by unfold inQ; rw [if_neg hκ, late_lo]; rfl
theorem inQ_hi (c : Dev nD) {κ : Fin 3} (hκ : κ ≠ 0) (k : Fin 4) : inQ c κ (hi k) = qZ c := by unfold inQ; rw [if_neg hκ, late_hi]; rfl
theorem peer_x (c : Dev nD) (n : Fin 8) : peer c 0 n = xp c := if_pos rfl
theorem peer_lo (c : Dev nD) {κ : Fin 3} (hκ : κ ≠ 0) (k : Fin 4) : peer c κ (lo k) = yp c := by unfold peer; rw [if_neg hκ, late_lo]; rfl
theorem peer_hi (c : Dev nD) {κ : Fin 3} (hκ : κ ≠ 0) (k : Fin 4) : peer c κ (hi k) = zp c := by unfold peer; rw [if_neg hκ, late_hi]; rfl

theorem lent_x_lo (c : Dev nD) (k : Fin 4) : lent m c 0 (lo k) = tSend c (qA c) k fullShare.left (SB m c) := by
  unfold lent part; rw [if_neg (by decide), outQ_x_lo, col_lo, late_lo]; rfl
theorem lent_x_hi (c : Dev nD) (k : Fin 4) : lent m c 0 (hi k) = tSend c (qD c) k fullShare (SB m c) := by
  unfold lent part; rw [if_neg (by decide), outQ_x_hi, col_hi, late_hi]; rfl
theorem lent_f_lo (c : Dev nD) (k : Fin 4) : lent m c 1 (lo k) = tRecv c (qA c) k fullShare.left (RB m c) := by
  unfold lent part; rw [if_pos rfl, outQ_near c (by decide), col_lo, late_lo]; rfl
theorem lent_f_hi (c : Dev nD) (k : Fin 4) : lent m c 1 (hi k) = tRecv c (qA c) k fullShare.right.left (RB m c) := by
  unfold lent part; rw [if_pos rfl, outQ_near c (by decide), col_hi, late_hi]; rfl
theorem lent_l_lo (c : Dev nD) (k : Fin 4) : lent m c 2 (lo k) = tSend c (qA c) k fullShare.right.left (SB m c) := by
  unfold lent part; rw [if_neg (by decide), outQ_near c (by decide), col_lo, late_lo]; rfl
theorem lent_l_hi (c : Dev nD) (k : Fin 4) : lent m c 2 (hi k) = tSend c (qA c) k fullShare.right.right (SB m c) := by
  unfold lent part; rw [if_neg (by decide), outQ_near c (by decide), col_hi, late_hi]; rfl

theorem landed_x_lo (c : Dev nD) (k : Fin 4) : landed m c 0 (lo k) = tRecv c (qA c) k fullShare (RB m c) := by
  unfold landed; rw [if_neg (by decide), inQ_x_lo, col_lo]
theorem landed_x_hi (c : Dev nD) (k : Fin 4) : landed m c 0 (hi k) = tRecv c (qD c) k fullShare (RB m c) := by
  unfold landed; rw [if_neg (by decide), inQ_x_hi, col_hi]
theorem landed_f_lo (c : Dev nD) (k : Fin 4) : landed m c 1 (lo k) = tRecv c (qY c) k fullShare (RB m c) := by
  unfold landed; rw [if_neg (by decide), inQ_lo c (by decide), col_lo]
theorem landed_f_hi (c : Dev nD) (k : Fin 4) : landed m c 1 (hi k) = tRecv c (qZ c) k fullShare (RB m c) := by
  unfold landed; rw [if_neg (by decide), inQ_hi c (by decide), col_hi]
theorem landed_l_lo (c : Dev nD) (k : Fin 4) : landed m c 2 (lo k) = tLoc c (qY c) k fullShare (RL m c) := by
  unfold landed; rw [if_pos rfl, inQ_lo c (by decide), col_lo]
theorem landed_l_hi (c : Dev nD) (k : Fin 4) : landed m c 2 (hi k) = tLoc c (qZ c) k fullShare (RL m c) := by
  unfold landed; rw [if_pos rfl, inQ_hi c (by decide), col_hi]

theorem hole_x_lo (c : Dev nD) (k : Fin 4) : (hole c 0 (lo k) : sProp 𝕄) = iprop(∃ f, tRecv c (qA c) k fullShare f) := by
  unfold hole; rw [if_neg (by decide), inQ_x_lo, col_lo]
theorem hole_x_hi (c : Dev nD) (k : Fin 4) : (hole c 0 (hi k) : sProp 𝕄) = iprop(∃ f, tRecv c (qD c) k fullShare f) := by
  unfold hole; rw [if_neg (by decide), inQ_x_hi, col_hi]
theorem hole_f_lo (c : Dev nD) (k : Fin 4) : (hole c 1 (lo k) : sProp 𝕄) = iprop(∃ f, tRecv c (qY c) k fullShare f) := by
  unfold hole; rw [if_neg (by decide), inQ_lo c (by decide), col_lo]
theorem hole_f_hi (c : Dev nD) (k : Fin 4) : (hole c 1 (hi k) : sProp 𝕄) = iprop(∃ f, tRecv c (qZ c) k fullShare f) := by
  unfold hole; rw [if_neg (by decide), inQ_hi c (by decide), col_hi]
theorem hole_l_lo (c : Dev nD) (k : Fin 4) : (hole c 2 (lo k) : sProp 𝕄) = iprop(∃ f, tLoc c (qY c) k fullShare f) := by
  unfold hole; rw [if_pos rfl, inQ_lo c (by decide), col_lo]
theorem hole_l_hi (c : Dev nD) (k : Fin 4) : (hole c 2 (hi k) : sProp 𝕄) = iprop(∃ f, tLoc c (qZ c) k fullShare f) := by
  unfold hole; rw [if_pos rfl, inQ_hi c (by decide), col_hi]

/-! ## A tile in three shares -/

/-- A points-to in the three shares of a tile lent more than once. -/
theorem three {ℓ : Loc nD τ sig} {I : Finset (Idx ℓ)} {f : Buf (Elt F) ℓ} :
    (ℓ ↦[I]{fullShare} f : sProp 𝕄) = iprop((ℓ ↦[I]{fullShare.left} f) ∗ (ℓ ↦[I]{fullShare.right.left} f) ∗ (ℓ ↦[I]{fullShare.right.right} f)) := by
  have h1 := pointsTo_share (PosShare.mem_left_op_right fullShare) (ℓ := ℓ) (I := I) (f := f)
    (Ix := Unit) (Val := Elt F) (Name := ℕ) (U := UU) (Lvl := ℕ)
  have h2 := pointsTo_share (PosShare.mem_left_op_right fullShare.right) (ℓ := ℓ) (I := I) (f := f)
    (Ix := Unit) (Val := Elt F) (Name := ℕ) (U := UU) (Lvl := ℕ)
  rw [BI.Entails.antisymm h1.1 h1.2, BI.Entails.antisymm h2.1 h2.2]

theorem three_send (c : Dev nD) (k : Fin 4) : (tSend c (qA c) k fullShare (SB m c) : sProp 𝕄)
    = iprop(lent m c 0 (lo k) ∗ lent m c 2 (lo k) ∗ lent m c 2 (hi k)) := by rw [lent_x_lo, lent_l_lo, lent_l_hi]; exact three
theorem three_recv (c : Dev nD) (k : Fin 4) : (tRecv c (qA c) k fullShare (RB m c) : sProp 𝕄)
    = iprop(lent m c 1 (lo k) ∗ lent m c 1 (hi k) ∗ tRecv c (qA c) k fullShare.right.right (RB m c)) := by rw [lent_f_lo, lent_f_hi]; exact three

/-! ## Bundles of a column -/

/-- What a column of the first quarter's sends take, over there and here. -/
def ready1 (c : Dev nD) (k : Fin 4) : sProp 𝕄 := iprop(ready c 0 (lo k) ∗ ready c 2 (lo k) ∗ ready c 2 (hi k))
/-- What a column of the second quarter's sends take. -/
def ready2 (c : Dev nD) (k : Fin 4) : sProp 𝕄 := iprop(ready c 0 (hi k) ∗ ready c 1 (lo k) ∗ ready c 1 (hi k))
/-- What waiting for a column of the first quarter's sends takes. -/
def sent1 (c : Dev nD) (k : Fin 4) : sProp 𝕄 := iprop(await c 0 false (lo k) ∗ await c 2 false (lo k) ∗ await c 2 false (hi k))
/-- What waiting for a column of the second quarter's sends takes. -/
def sent2 (c : Dev nD) (k : Fin 4) : sProp 𝕄 := iprop(await c 0 false (hi k) ∗ await c 1 false (lo k) ∗ await c 1 false (hi k))

section

variable (c px py pz : Dev nD) (hx : px = xp c) (hy : py = yp c) (hz : pz = zp c) (k : Fin 4) (l : List Due)
include hx hy hz

theorem sends_spec (o : Fin 2 → ℕ) (h : TileIn o) (hw : TileWords o h) (ho : o = tO (qA c) k) (Q : PUnit → sProp 𝕄) :
    iprop(records m K ∗ tSend c (qA c) k fullShare (SB m c) ∗ ready1 c k ∗ ow c (dues1 k ++ l))
      ⊢ iprop(((sent1 c k ∗ ow c l) -∗ Q ⟨⟩) -∗ WP c (sends px py pz k o h hw) Q) := by
  unfold WP sends ready1 sent1
  simp only [wp_bind]
  have e0 : dues1 k ++ l = .tr 0 (lo k) :: .tr 2 (lo k) :: .tr 2 (hi k) :: l := rfl
  rw [e0, three_send]
  iintro ⟨#HR, ⟨Hs1, Hs2, Hs3⟩, ⟨Hr1, Hr2, Hr3⟩, HO⟩ HQ
  iapply (send_x m K c px (lo k) o h hw _ (hx.trans (peer_x c _).symm) (by rw [outQ_x_lo, col_lo]; exact ho) _) $$ [Hs1 Hr1 HO]
  · isplitr; · iexact HR
    isplitl [Hs1]; · iexact Hs1
    isplitl [Hr1]; · iexact Hr1
    iexact HO
  iintro ⟨Ha1, HO⟩
  iapply (send_l m K c py (lo k) o h hw _ (hy.trans (peer_lo c (by decide) k).symm) (by rw [outQ_near c (by decide), col_lo]; exact ho) _) $$ [Hs2 Hr2 HO]
  · isplitr; · iexact HR
    isplitl [Hs2]; · iexact Hs2
    isplitl [Hr2]; · iexact Hr2
    iexact HO
  iintro ⟨Ha2, HO⟩
  iapply (send_l m K c pz (hi k) o h hw _ (hz.trans (peer_hi c (by decide) k).symm) (by rw [outQ_near c (by decide), col_hi]; exact ho) _) $$ [Hs3 Hr3 HO]
  · isplitr; · iexact HR
    isplitl [Hs3]; · iexact Hs3
    isplitl [Hr3]; · iexact Hr3
    iexact HO
  iintro ⟨Ha3, HO⟩
  iapply HQ
  isplitl [Ha1 Ha2 Ha3]
  · isplitl [Ha1]; · iexact Ha1
    isplitl [Ha2]; · iexact Ha2
    iexact Ha3
  iexact HO

theorem pass_spec (oD : Fin 2 → ℕ) (hD : TileIn oD) (hwD : TileWords oD hD) (oA : Fin 2 → ℕ) (hA : TileIn oA) (hwA : TileWords oA hA)
    (oB : Fin 2 → ℕ) (hB : TileIn oB) (hoD : oD = tO (qD c) k) (hoA : oA = tO (qA c) k) (hoB : oB = tO (qA c) k)
    (hl : ∀ d ∈ l, 2 < dlv d) (Q : PUnit → sProp 𝕄) :
    iprop(records m K ∗ (tSend c (qD c) k fullShare (SB m c) ∗ tOut c (qA c) k (PA m c) ∗ await c 0 true (lo k)) ∗ ready2 c k ∗ ow c (dues2 k ++ l))
      ⊢ iprop((((sent2 c k ∗ zero c 0 true (lo k) ∗ tRecv c (qA c) k fullShare.right.right (RB m c) ∗ tOut c (qA c) k (OUT m c)) ∗ ow c l) -∗ Q ⟨⟩)
        -∗ WP c (pass px py pz k oD hD hwD oA hA hwA oB hB) Q) := by
  unfold WP pass ready2 sent2
  simp only [wp_bind]
  have e0 : dues2 k ++ l = .tr 0 (hi k) :: .tr 1 (lo k) :: .tr 1 (hi k) :: l := rfl
  rw [e0, ← lent_x_hi]
  iintro ⟨#HR, ⟨Hs1, Hout, Hat⟩, ⟨Hr1, Hr2, Hr3⟩, HO⟩ HQ
  iapply (send_x m K c px (hi k) oD hD hwD _ (hx.trans (peer_x c _).symm) (by rw [outQ_x_hi, col_hi]; exact hoD) _) $$ [Hs1 Hr1 HO]
  · isplitr; · iexact HR
    isplitl [Hs1]; · iexact Hs1
    isplitl [Hr1]; · iexact Hr1
    iexact HO
  iintro ⟨Ha1, HO⟩
  have hlev : ∀ d ∈ (Due.tr 1 (lo k) :: Due.tr 1 (hi k) :: l), slv (.dma (tsem 0 true (lo k))) < dlv d := by
    have e : slv (.dma (tsem 0 true (lo k))) = 2 := by rw [slv_tr, late_lo]; rfl
    have e1 : ∀ n, dlv (.tr 1 n) = 3 := by decide
    intro d hd
    rw [e]
    rcases List.mem_cons.mp hd with rfl | hd
    · rw [e1]; decide
    rcases List.mem_cons.mp hd with rfl | hd
    · rw [e1]; decide
    exact hl d hd
  iapply (wait_spec m K vSend hSend vRecv hRecv c 0 (lo k) oA hA hwA _ true rfl hlev _) $$ [Hat HO]
  · isplitr; · iexact HR
    isplitl [Hat]; · iexact Hat
    iexact HO
  dsimp only [cond]
  rw [landed_x_lo, three_recv]
  iintro ⟨⟨Hs2, Hs3, Hs4⟩, Hz, HO⟩
  iapply (send_f m K c py (lo k) oA hA hwA _ (hy.trans (peer_lo c (by decide) k).symm) (by rw [outQ_near c (by decide), col_lo]; exact hoA) _) $$ [Hs2 Hr2 HO]
  · isplitr; · iexact HR
    isplitl [Hs2]; · iexact Hs2
    isplitl [Hr2]; · iexact Hr2
    iexact HO
  iintro ⟨Ha2, HO⟩
  iapply (send_f m K c pz (hi k) oA hA hwA _ (hz.trans (peer_hi c (by decide) k).symm) (by rw [outQ_near c (by decide), col_hi]; exact hoA) _) $$ [Hs3 Hr3 HO]
  · isplitr; · iexact HR
    isplitl [Hs3]; · iexact Hs3
    isplitl [Hr3]; · iexact Hr3
    iexact HO
  iintro ⟨Ha3, HO⟩
  iapply (add_tile_spec m c oB hB k hoB _ _) $$ [Hout Hs4]
  · isplitl [Hout]; · iexact Hout
    iexact Hs4
  iintro ⟨Hout, Hs4⟩
  iapply HQ
  isplitr [HO]
  · isplitl [Ha1 Ha2 Ha3]
    · isplitl [Ha1]; · iexact Ha1
      isplitl [Ha2]; · iexact Ha2
      iexact Ha3
    isplitl [Hz]; · iexact Hz
    isplitl [Hs4]; · iexact Hs4
    iexact Hout
  iexact HO

end

section

variable (c : Dev nD) (n : Fin 8) (o : Fin 2 → ℕ) (h : TileIn o) (hw : TileWords o h)

theorem arrive_spec (Q : PUnit → sProp 𝕄) :
    iprop(records m K ∗ (await c 2 true n ∗ await c 1 true n) ∗ ow c [])
      ⊢ iprop((((landed m c 2 n ∗ landed m c 1 n) ∗ (zero c 2 true n ∗ zero c 1 true n) ∗ ow c []) -∗ Q ⟨⟩) -∗ WP c (arrive n o h hw) Q) := by
  unfold WP arrive
  simp only [wp_bind]
  iintro ⟨#HR, ⟨H1, H2⟩, HO⟩ HQ
  iapply (wait_spec m K vSend hSend vLoc hLoc c 2 n o h hw [] true rfl (fun d hd => absurd hd (List.not_mem_nil)) _) $$ [H1 HO]
  · isplitr; · iexact HR
    isplitl [H1]; · iexact H1
    iexact HO
  dsimp only [cond]
  iintro ⟨Hl, Hz, HO⟩
  iapply (wait_spec m K vRecv hRecv vRecv hRecv c 1 n o h hw [] true rfl (fun d hd => absurd hd (List.not_mem_nil)) _) $$ [H2 HO]
  · isplitr; · iexact HR
    isplitl [H2]; · iexact H2
    iexact HO
  dsimp only [cond]
  iintro ⟨Hl', Hz', HO⟩
  iapply HQ
  isplitl [Hl Hl']
  · isplitl [Hl]; · iexact Hl
    iexact Hl'
  isplitl [Hz Hz']
  · isplitl [Hz]; · iexact Hz
    iexact Hz'
  iexact HO

theorem drain_spec (Q : PUnit → sProp 𝕄) :
    iprop(records m K ∗ (await c 1 false n ∗ await c 2 false n) ∗ ow c [])
      ⊢ iprop((((lent m c 1 n ∗ lent m c 2 n) ∗ (zero c 1 false n ∗ zero c 2 false n) ∗ ow c []) -∗ Q ⟨⟩) -∗ WP c (drain n o h hw) Q) := by
  unfold WP drain
  simp only [wp_bind]
  iintro ⟨#HR, ⟨H1, H2⟩, HO⟩ HQ
  iapply (wait_spec m K vRecv hRecv vRecv hRecv c 1 n o h hw [] false rfl (fun d hd => absurd hd (List.not_mem_nil)) _) $$ [H1 HO]
  · isplitr; · iexact HR
    isplitl [H1]; · iexact H1
    iexact HO
  dsimp only [cond]
  iintro ⟨Hl, Hz, HO⟩
  iapply (wait_spec m K vLoc hLoc vSend hSend c 2 n o h hw [] false rfl (fun d hd => absurd hd (List.not_mem_nil)) _) $$ [H2 HO]
  · isplitr; · iexact HR
    isplitl [H2]; · iexact H2
    iexact HO
  dsimp only [cond]
  iintro ⟨Hl', Hz', HO⟩
  iapply HQ
  isplitl [Hl Hl']
  · isplitl [Hl]; · iexact Hl
    iexact Hl'
  isplitl [Hz Hz']
  · isplitl [Hz]; · iexact Hz
    iexact Hz'
  iexact HO

theorem hand_spec (px py pz : Dev nD) (hx : px = xp c) (hy : py = yp c) (hz : pz = zp c) (l : List Due) (Q : PUnit → sProp 𝕄) :
    iprop(records m K ∗ ow c (.bar 0 :: .bar 1 :: .bar 2 :: l)
        ∗ (dutyTok ER (bcell (along c 0)) 0 0 ∗ dutyTok ER (bcell (along c 1)) 0 1 ∗ dutyTok ER (bcell (along c 2)) 0 2)
        ∗ (barPay (along c 0) 0 ∗ barPay (along c 1) 1 ∗ barPay (along c 2) 2))
      ⊢ iprop((ow c l -∗ Q ⟨⟩) -∗ WP c (hand px py pz) Q) := by
  unfold WP hand
  simp only [wp_bind]
  iintro ⟨#HR, HO, ⟨Ht0, Ht1, Ht2⟩, ⟨Hp0, Hp1, Hp2⟩⟩ HQ
  iapply (signal_spec m K c px 0 hx _ _) $$ [HO Ht0 Hp0]
  · isplitr; · iexact HR
    isplitl [HO]; · iexact HO
    isplitl [Ht0]; · iexact Ht0
    iexact Hp0
  iintro HO
  iapply (signal_spec m K c py 1 hy _ _) $$ [HO Ht1 Hp1]
  · isplitr; · iexact HR
    isplitl [HO]; · iexact HO
    isplitl [Ht1]; · iexact Ht1
    iexact Hp1
  iintro HO
  iapply (signal_spec m K c pz 2 hz _ _) $$ [HO Ht2 Hp2]
  · isplitr; · iexact HR
    isplitl [HO]; · iexact HO
    isplitl [Ht2]; · iexact Ht2
    iexact Hp2
  iexact HQ

end

end Cert.KernelIdeal
-- ==== Proof.Halves.lean ====
module

public import proofs.«01_k».proof.Proof.Columns

/-! The first two stretches of the body: the columns of the two quarters a device computes. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## The offsets the body names -/

theorem off_wide : ∀ d : Dev nD, k0_off1 d = rO (qA d) ∧ k0_off2 d = rO (qA d) ∧ k0_off3 d = rO (qD d) ∧ k0_off12 d = rO (qD d) := by decide +kernel
theorem off_A : ∀ d : Dev nD, (k0_off4 d = tO (qA d) 0 ∧ k0_off5 d = tO (qA d) 0) ∧ (k0_off6 d = tO (qA d) 1 ∧ k0_off7 d = tO (qA d) 1)
    ∧ (k0_off8 d = tO (qA d) 2 ∧ k0_off9 d = tO (qA d) 2) ∧ (k0_off10 d = tO (qA d) 3 ∧ k0_off11 d = tO (qA d) 3) := by decide +kernel
theorem off_D : ∀ d : Dev nD, (k0_off13 d = tO (qD d) 0 ∧ k0_off14 d = tO (qD d) 0) ∧ (k0_off15 d = tO (qD d) 1 ∧ k0_off16 d = tO (qD d) 1)
    ∧ (k0_off17 d = tO (qD d) 2 ∧ k0_off18 d = tO (qD d) 2) ∧ (k0_off19 d = tO (qD d) 3 ∧ k0_off20 d = tO (qD d) 3) := by decide +kernel
theorem off_rows : ∀ d : Dev nD, k0_off21 d = rO (qA d) ∧ (k0_off22 d = rO (qD d) ∧ k0_off23 d = rO (qD d))
    ∧ (k0_off24 d = rO (qY d) ∧ k0_off25 d = rO (qY d)) ∧ (k0_off26 d = rO (qZ d) ∧ k0_off27 d = rO (qZ d)) := by decide +kernel

/-! ## Four at a time -/

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- A step taken at every index. -/
theorem each {I : Type} [Fintype I] {Φ Ψ : I → sProp 𝕄} (h : ∀ i, Φ i ⊢ Ψ i) : bigSep Finset.univ Φ ⊢ bigSep Finset.univ Ψ :=
  bigSep_mono fun i _ => h i

/-- A part of a buffer cut into four. -/
theorem cut {ℓ : Loc nD τ sig} (S : Fin 4 → Finset (Idx ℓ)) (T : Finset (Idx ℓ)) (hT : Finset.univ.biUnion S = T)
    (hd : ∀ q ∈ (Finset.univ : Finset (Fin 4)), ∀ q' ∈ (Finset.univ : Finset (Fin 4)), q ≠ q' → Disjoint (S q) (S q')) (f : Buf (Elt F) ℓ) :
    (ℓ ↦[T]{fullShare} f : sProp 𝕄) = bigSep Finset.univ fun q => ℓ ↦[S q]{fullShare} f := by
  rw [← hT]; exact pointsTo_biUnion Finset.univ S hd
/-- Four parts of unknown contents put together. -/
theorem mend {ℓ : Loc nD τ sig} (S : Fin 4 → Finset (Idx ℓ)) (T : Finset (Idx ℓ)) (hT : Finset.univ.biUnion S = T)
    (hd : ∀ q ∈ (Finset.univ : Finset (Fin 4)), ∀ q' ∈ (Finset.univ : Finset (Fin 4)), q ≠ q' → Disjoint (S q) (S q')) (f₀ : Buf (Elt F) ℓ) :
    (bigSep Finset.univ fun q => iprop(∃ f, ℓ ↦[S q]{fullShare} f) : sProp 𝕄) ⊢ iprop(∃ f, ℓ ↦[T]{fullShare} f) := by
  rw [← hT]
  haveI : Nonempty (Buf (Elt F) ℓ) := ⟨f₀⟩
  refine (BI.bigSep_exists_pi Finset.univ (fun q f => (ℓ ↦[S q]{fullShare} f : sProp 𝕄))).trans ?_
  iintro ⟨%fs, H⟩
  ihave H := (pointsTo_biUnion_join Finset.univ S fs f₀ hd) $$ H
  icases H with ⟨%g, -, H⟩
  iexists g; iexact H

theorem out_tiles (c : Dev nD) (q : Fin 4) (f : Buf (Elt F) ((c : Thread nD τ).loc cc0_scratch1)) :
    (rOut c q f : sProp 𝕄) = bigSep Finset.univ fun k => tOut c q k f :=
  cut (ℓ := (c : Thread nD τ).loc cc0_scratch1) (tS q) (rS q) (tS_cover q) (tS_disjoint q) f
theorem recv_tiles (c : Dev nD) (q : Fin 4) (f : Buf (Elt F) ((c : Thread nD τ).loc cc0_scratch6)) :
    (rRecv c q f : sProp 𝕄) = bigSep Finset.univ fun k => tRecv c q k fullShare f :=
  cut (ℓ := (c : Thread nD τ).loc cc0_scratch6) (tS q) (rS q) (tS_cover q) (tS_disjoint q) f
theorem loc_tiles (c : Dev nD) (q : Fin 4) (f : Buf (Elt F) ((c : Thread nD τ).loc cc0_scratch7)) :
    (rLoc c q f : sProp 𝕄) = bigSep Finset.univ fun k => tLoc c q k fullShare f :=
  cut (ℓ := (c : Thread nD τ).loc cc0_scratch7) (tS q) (rS q) (tS_cover q) (tS_disjoint q) f

/-! ## The first quarter -/

/-- The rights to send in a slot, without the place over there. -/
def tok (c : Dev nD) (κ : Fin 3) (n : Fin 8) : sProp 𝕄 :=
  iprop(dutyTok ER (tcell c κ false n) 0 0 ∗ dutyTok ER (tcell (peer c κ n) κ true n) 0 0 ∗ atPos ER (tcell c κ false n) 0 ∅ 0)
def tok1 (c : Dev nD) (k : Fin 4) : sProp 𝕄 := iprop(tok c 0 (lo k) ∗ tok c 2 (lo k) ∗ tok c 2 (hi k))
def tok2 (c : Dev nD) (k : Fin 4) : sProp 𝕄 := iprop(tok c 0 (hi k) ∗ tok c 1 (lo k) ∗ tok c 1 (hi k))

/-- What the barrier hands over completes the rights to send. -/
theorem mk_ready (c : Dev nD) :
    iprop((barPay c 0 ∗ barPay c 1 ∗ barPay c 2) ∗ bigSep Finset.univ (tok1 (F := F) c) ∗ bigSep Finset.univ (tok2 c))
      ⊢ iprop(bigSep Finset.univ (ready1 c) ∗ bigSep Finset.univ (ready2 (F := F) c) : sProp 𝕄) := by
  have e0 : (barPay c 0 : sProp 𝕄) = bigSep Finset.univ fun k : Fin 4 => iprop(hole (xp c) 0 (lo k) ∗ hole (xp c) 0 (hi k)) := if_pos rfl
  have e1 : (barPay c 1 : sProp 𝕄) = bigSep Finset.univ fun k : Fin 4 => iprop(hole (yp c) 1 (lo k) ∗ hole (yp c) 2 (lo k)) := by
    unfold barPay; rw [if_neg (by decide), if_pos rfl]
  have e2 : (barPay c 2 : sProp 𝕄) = bigSep Finset.univ fun k : Fin 4 => iprop(hole (zp c) 1 (hi k) ∗ hole (zp c) 2 (hi k)) := by
    unfold barPay; rw [if_neg (by decide), if_neg (by decide)]
  rw [e0, e1, e2, ← bigSep_sep', ← bigSep_sep', ← bigSep_sep', ← bigSep_sep', ← bigSep_sep']
  refine each fun k => ?_
  unfold ready1 ready2 ready tok1 tok2 tok
  rw [peer_x, peer_x, peer_lo c (by decide), peer_hi c (by decide), peer_lo c (by decide), peer_hi c (by decide)]
  iintro ⟨⟨⟨Ha, Hb⟩, ⟨Hc, Hd⟩, ⟨He, Hf⟩⟩, ⟨⟨T1, T2, T3⟩, ⟨T4, T5, T6⟩⟩⟩
  isplitl [Ha Hd Hf T1 T2 T3]
  · isplitl [Ha T1]
    · isplitl [Ha]; · iexact Ha
      iexact T1
    isplitl [Hd T2]
    · isplitl [Hd]; · iexact Hd
      iexact T2
    isplitl [Hf]; · iexact Hf
    iexact T3
  · isplitl [Hb T4]
    · isplitl [Hb]; · iexact Hb
      iexact T4
    isplitl [Hc T5]
    · isplitl [Hc]; · iexact Hc
      iexact T5
    isplitl [He]; · iexact He
    iexact T6

/-- The semaphore of `W`'s copies. -/
abbrev wi (k : Fin 4) : Fin 10 := ⟨k.val, by omega⟩

/-- A column of the first quarter to be computed: where it goes. -/
def room1 (c : Dev nD) (k : Fin 4) : sProp 𝕄 :=
  iprop((∃ f, lWb c k f) ∗ (∃ f, tOut c (qA c) k f) ∗ (∃ f, tSend c (qA c) k fullShare f))
/-- `W`'s rows of a column, to be copied in. -/
def room0 (c : Dev nD) (k : Fin 4) : sProp 𝕄 := iprop(pW c k (wB m c) ∗ (∃ f, lW c k f) ∗ semVal (lcell c (wi k)) 0)
/-- A column of the first quarter computed and sent. -/
def done1 (c : Dev nD) (k : Fin 4) : sProp 𝕄 :=
  iprop((lW c k (wB m c) ∗ pW c k (wB m c)) ∗ semVal (lcell c (wi k)) 0 ∗ lWb c k (Wb m c) ∗ tOut c (qA c) k (PA m c) ∗ sent1 c k)

section Column

variable (c px py pz : Dev nD) (hx : px = xp c) (hy : py = yp c) (hz : pz = zp c) (k : Fin 4) (l : List Due)
include hx hy hz

theorem column1 (ow' : Fin 2 → ℕ) (hw' : WideIn ow') (hpw : WidePacked ow' hw') (hw0 : ow' = rO k)
    (o : Fin 2 → ℕ) (h : TileIn o) (hp : TilePacked o h) (ho : o = tO (qA c) k) (o' : Fin 2 → ℕ) (h' : TileIn o') (hw : TileWords o' h') (ho' : o' = tO (qA c) k)
    (Q : PUnit → sProp 𝕄) :
    iprop(records m K ∗ fly c (wi k) NW iprop(lW c k (wB m c) ∗ pW c k (wB m c)) ∗ room1 c k ∗ lDb c (dyQ m c (qA c)) ∗ ready1 c k ∗ ow c (dues1 k ++ l))
      ⊢ iprop(((done1 m c k ∗ lDb c (dyQ m c (qA c)) ∗ ow c l) -∗ Q ⟨⟩)
        -∗ WP c (inWait bW vW (lsem (wi k)) ow' hw') (fun _ => WP c (wCast ow' hw' hpw) (fun _ => WP c (dot ow' hw' o h hp) (fun _ =>
            WP c (sends px py pz k o' h' hw) Q)))) := by
  unfold room1 done1
  iintro ⟨#HR, HF, ⟨Hwb, Ho, Hs⟩, Hdb, Hr, HO⟩ HQ
  iapply (in_wait m K c (wi k) ow' _ bW vW hw' rfl _ _) $$ [HF HO]
  · isplitr; · iexact HR
    isplitl [HF]; · iexact HF
    iexact HO
  iintro ⟨⟨Hw, Hpw⟩, Hz, HO⟩
  iapply (w_cast m c ow' hw' hpw k hw0 _) $$ [Hw Hwb]
  · isplitl [Hw]; · iexact Hw
    iexact Hwb
  iintro ⟨Hw, Hwb⟩
  iapply (dot_spec m c o ow' hw' h hp (qA c) k hw0 ho _) $$ [Hdb Hwb Ho Hs]
  · isplitl [Hdb]; · iexact Hdb
    isplitl [Hwb]; · iexact Hwb
    isplitl [Ho]; · iexact Ho
    iexact Hs
  iintro ⟨Hdb, Hwb, Ho, Hs⟩
  iapply (sends_spec m K c px py pz hx hy hz k l o' h' hw ho' _) $$ [Hs Hr HO]
  · isplitr; · iexact HR
    isplitl [Hs]; · iexact Hs
    isplitl [Hr]; · iexact Hr
    iexact HO
  iintro ⟨Hse, HO⟩
  iapply HQ
  isplitr [Hdb HO]
  · isplitl [Hw Hpw]
    · isplitl [Hw]; · iexact Hw
      iexact Hpw
    isplitl [Hz]; · iexact Hz
    isplitl [Hwb]; · iexact Hwb
    isplitl [Ho]; · iexact Ho
    iexact Hse
  isplitl [Hdb]; · iexact Hdb
  iexact HO

end Column

/-- What the first stretch takes. -/
def pre1 (c : Dev nD) : sProp 𝕄 :=
  iprop((ow c dues ∗ (dutyTok ER (bcell (along c 0)) 0 0 ∗ dutyTok ER (bcell (along c 1)) 0 1 ∗ dutyTok ER (bcell (along c 2)) 0 2)
      ∗ (barPay (along c 0) 0 ∗ barPay (along c 1) 1 ∗ barPay (along c 2) 2) ∗ cred (tallyAt (bcell c) () 3) ∗ atPos ER (bcell c) 0 ∅ 0)
    ∗ (bigSep Finset.univ (tok1 c) ∗ bigSep Finset.univ (tok2 c))
    ∗ (bigSep Finset.univ (room0 m c) ∗ bigSep Finset.univ (room1 c))
    ∗ (pDy c (qA c) (dyB m c) ∗ (∃ f, lDy c (qA c) f) ∗ semVal (lcell c 4) 0)
    ∗ (pDy c (qD c) (dyB m c) ∗ (∃ f, lDy c (qD c) f) ∗ semVal (lcell c 5) 0)
    ∗ (∃ f, lDb c f))
/-- What it leaves. -/
def post1 (c : Dev nD) : sProp 𝕄 :=
  iprop((ow c second ∗ semVal (bcell c) 0) ∗ bigSep Finset.univ (ready2 c) ∗ bigSep Finset.univ (done1 m c)
    ∗ ((lDy c (qA c) (dyB m c) ∗ pDy c (qA c) (dyB m c)) ∗ semVal (lcell c 4) 0)
    ∗ fly c 5 NW iprop(lDy c (qD c) (dyB m c) ∗ pDy c (qD c) (dyB m c))
    ∗ (∃ f, lDb c f))

theorem first_half (c : Dev nD) (Q : PUnit → sProp 𝕄) :
    iprop(records m K ∗ pre1 m c) ⊢ iprop((post1 m c -∗ Q ⟨⟩) -∗ WP c (firstHalf c) Q) := by
  obtain ⟨x0, x1, x2, x3, -⟩ := dev_x c
  obtain ⟨y0, y1, y2, y3, -⟩ := dev_y c
  obtain ⟨z0, z1, z2, z3, -⟩ := dev_z c
  obtain ⟨⟨a0, b0⟩, ⟨a1, b1⟩, ⟨a2, b2⟩, ⟨a3, b3⟩⟩ := off_A c
  obtain ⟨w1, w2, w3, -⟩ := off_wide c
  unfold WP firstHalf pre1 post1
  simp only [wp_bind]
  rw [four (room0 m c), four (room1 c), four (done1 m c)]
  unfold room0
  iintro ⟨#HR, ⟨HO, Hts, Hps, Hcr, Hat⟩, ⟨Ht1, Ht2⟩, ⟨⟨⟨Hw0, Hl0, Hz0⟩, ⟨Hw1, Hl1, Hz1⟩, ⟨Hw2, Hl2, Hz2⟩, ⟨Hw3, Hl3, Hz3⟩⟩, ⟨Hr0, Hr1, Hr2, Hr3⟩⟩, Hd, Hd', Hdb⟩ HQ
  iapply (hand_spec m K c _ _ _ rfl rfl rfl first _) $$ [HO Hts Hps]
  · isplitr; · iexact HR
    isplitl [HO]; · iexact HO
    isplitl [Hts]; · iexact Hts
    iexact Hps
  iintro HO
  iapply (w_go m c (wi 0) _ _ 0 rfl _) $$ [Hw0 Hl0 Hz0]
  · isplitl [Hw0]; · iexact Hw0
    isplitl [Hl0]; · iexact Hl0
    iexact Hz0
  iintro HF0
  iapply (dy_go m c 4 _ _ (qA c) w1 _) $$ Hd
  iintro HF
  iapply (in_wait m K c 4 _ _ bDy vDy _ rfl _ _) $$ [HF HO]
  · isplitr; · iexact HR
    isplitl [HF]; · iexact HF
    iexact HO
  iintro ⟨⟨Hdy, Hpd⟩, Hz4, HO⟩
  iapply (dy_cast m c _ _ (qA c) w2 _) $$ [Hdy Hdb]
  · isplitl [Hdy]; · iexact Hdy
    iexact Hdb
  iintro ⟨Hdy, Hdb⟩
  iapply (in_wait m K c (wi 0) _ _ bW vW _ rfl _ _) $$ [HF0 HO]
  · isplitr; · iexact HR
    isplitl [HF0]; · iexact HF0
    iexact HO
  iintro ⟨⟨Hl0, Hw0⟩, Hz0, HO⟩
  iapply (w_go m c (wi 1) _ _ 1 rfl _) $$ [Hw1 Hl1 Hz1]
  · isplitl [Hw1]; · iexact Hw1
    isplitl [Hl1]; · iexact Hl1
    iexact Hz1
  iintro HF1
  iapply (w_go m c (wi 2) _ _ 2 rfl _) $$ [Hw2 Hl2 Hz2]
  · isplitl [Hw2]; · iexact Hw2
    isplitl [Hl2]; · iexact Hl2
    iexact Hz2
  iintro HF2
  iapply (w_go m c (wi 3) _ _ 3 rfl _) $$ [Hw3 Hl3 Hz3]
  · isplitl [Hw3]; · iexact Hw3
    isplitl [Hl3]; · iexact Hl3
    iexact Hz3
  iintro HF3
  iapply (dy_go m c 5 _ _ (qD c) w3 _) $$ Hd'
  iintro HF
  unfold room1
  icases Hr0 with ⟨Hwb, Ho, Hs⟩
  iapply (w_cast m c _ _ _ 0 rfl _) $$ [Hl0 Hwb]
  · isplitl [Hl0]; · iexact Hl0
    iexact Hwb
  iintro ⟨Hl0, Hwb⟩
  iapply (dot_spec m c _ _ _ _ _ (qA c) 0 rfl a0 _) $$ [Hdb Hwb Ho Hs]
  · isplitl [Hdb]; · iexact Hdb
    isplitl [Hwb]; · iexact Hwb
    isplitl [Ho]; · iexact Ho
    iexact Hs
  iintro ⟨Hdb, Hwb, Ho, Hs⟩
  iapply (barrier_spec m K c first (by decide) _) $$ [HO Hcr Hat]
  · isplitr; · iexact HR
    isplitl [HO]; · iexact HO
    isplitl [Hcr]; · iexact Hcr
    iexact Hat
  iintro ⟨HO, Hp, Hzb⟩
  ihave Hr := (mk_ready (F := F) c) $$ [Hp Ht1 Ht2]
  · isplitl [Hp]; · iexact Hp
    isplitl [Ht1]; · iexact Ht1
    iexact Ht2
  rw [four (ready1 c)]
  icases Hr with ⟨⟨Hq0, Hq1, Hq2, Hq3⟩, Hr⟩
  iapply (sends_spec m K c _ _ _ (Fin.ext x0) (Fin.ext y0) (Fin.ext z0) 0 (dues1 1 ++ (dues1 2 ++ (dues1 3 ++ second))) _ _ _ b0 _) $$ [Hs Hq0 HO]
  · isplitr; · iexact HR
    isplitl [Hs]; · iexact Hs
    isplitl [Hq0]; · iexact Hq0
    iexact HO
  iintro ⟨Hse, HO⟩
  iapply (column1 m K c _ _ _ (Fin.ext x1) (Fin.ext y1) (Fin.ext z1) 1 (dues1 2 ++ (dues1 3 ++ second)) _ _ _ rfl _ _ _ a1 _ _ _ b1 _) $$ [HF1 Hr1 Hdb Hq1 HO]
  · isplitr; · iexact HR
    isplitl [HF1]; · iexact HF1
    isplitl [Hr1]; · unfold room1; iexact Hr1
    isplitl [Hdb]; · iexact Hdb
    isplitl [Hq1]; · iexact Hq1
    iexact HO
  iintro ⟨Hc1, Hdb, HO⟩
  iapply (column1 m K c _ _ _ (Fin.ext x2) (Fin.ext y2) (Fin.ext z2) 2 (dues1 3 ++ second) _ _ _ rfl _ _ _ a2 _ _ _ b2 _) $$ [HF2 Hr2 Hdb Hq2 HO]
  · isplitr; · iexact HR
    isplitl [HF2]; · iexact HF2
    isplitl [Hr2]; · unfold room1; iexact Hr2
    isplitl [Hdb]; · iexact Hdb
    isplitl [Hq2]; · iexact Hq2
    iexact HO
  iintro ⟨Hc2, Hdb, HO⟩
  iapply (column1 m K c _ _ _ (Fin.ext x3) (Fin.ext y3) (Fin.ext z3) 3 second _ _ _ rfl _ _ _ a3 _ _ _ b3 _) $$ [HF3 Hr3 Hdb Hq3 HO]
  · isplitr; · iexact HR
    isplitl [HF3]; · iexact HF3
    isplitl [Hr3]; · unfold room1; iexact Hr3
    isplitl [Hdb]; · iexact Hdb
    isplitl [Hq3]; · iexact Hq3
    iexact HO
  iintro ⟨Hc3, Hdb, HO⟩
  iapply HQ
  isplitl [HO Hzb]
  · isplitl [HO]; · iexact HO
    iexact Hzb
  isplitl [Hr]; · iexact Hr
  isplitl [Hl0 Hw0 Hz0 Hwb Ho Hse Hc1 Hc2 Hc3]
  · isplitl [Hl0 Hw0 Hz0 Hwb Ho Hse]
    · unfold done1
      isplitl [Hl0 Hw0]
      · isplitl [Hl0]; · iexact Hl0
        iexact Hw0
      isplitl [Hz0]; · iexact Hz0
      isplitl [Hwb]; · iexact Hwb
      isplitl [Ho]; · iexact Ho
      iexact Hse
    isplitl [Hc1]; · iexact Hc1
    isplitl [Hc2]; · iexact Hc2
    iexact Hc3
  isplitl [Hdy Hpd Hz4]
  · isplitl [Hdy Hpd]
    · isplitl [Hdy]; · iexact Hdy
      iexact Hpd
    iexact Hz4
  isplitl [HF]; · iexact HF
  iexists _; iexact Hdb

/-! ## The second quarter -/

/-- A column of the second quarter to be computed, and of the first to be completed. -/
def room2 (c : Dev nD) (k : Fin 4) : sProp 𝕄 :=
  iprop(lWb c k (Wb m c) ∗ (∃ f, tOut c (qD c) k f) ∗ (∃ f, tSend c (qD c) k fullShare f) ∗ tOut c (qA c) k (PA m c) ∗ await c 0 true (lo k))
/-- Both done. -/
def done2 (c : Dev nD) (k : Fin 4) : sProp 𝕄 :=
  iprop(lWb c k (Wb m c) ∗ tOut c (qD c) k (PA m c) ∗ sent2 c k ∗ zero c 0 true (lo k) ∗ tRecv c (qA c) k fullShare.right.right (RB m c))

section Column

variable (c px py pz : Dev nD) (hx : px = xp c) (hy : py = yp c) (hz : pz = zp c) (k : Fin 4) (l : List Due)
include hx hy hz

theorem column2 (ow' : Fin 2 → ℕ) (hw' : WideIn ow') (hw0 : ow' = rO k)
    (o : Fin 2 → ℕ) (h : TileIn o) (hp : TilePacked o h) (ho : o = tO (qD c) k)
    (oD : Fin 2 → ℕ) (hD : TileIn oD) (hwD : TileWords oD hD) (oA : Fin 2 → ℕ) (hA : TileIn oA) (hwA : TileWords oA hA)
    (oB : Fin 2 → ℕ) (hB : TileIn oB) (hoD : oD = tO (qD c) k) (hoA : oA = tO (qA c) k) (hoB : oB = tO (qA c) k)
    (hl : ∀ d ∈ l, 2 < dlv d) (Q : PUnit → sProp 𝕄) :
    iprop(records m K ∗ room2 m c k ∗ lDb c (dyQ m c (qD c)) ∗ ready2 c k ∗ ow c (dues2 k ++ l))
      ⊢ iprop(((done2 m c k ∗ tOut c (qA c) k (OUT m c) ∗ lDb c (dyQ m c (qD c)) ∗ ow c l) -∗ Q ⟨⟩)
        -∗ WP c (dot ow' hw' o h hp) (fun _ => WP c (pass px py pz k oD hD hwD oA hA hwA oB hB) Q)) := by
  unfold room2 done2
  iintro ⟨#HR, ⟨Hwb, Ho, Hs, HoA, Haw⟩, Hdb, Hr, HO⟩ HQ
  iapply (dot_spec m c o ow' hw' h hp (qD c) k hw0 ho _) $$ [Hdb Hwb Ho Hs]
  · isplitl [Hdb]; · iexact Hdb
    isplitl [Hwb]; · iexact Hwb
    isplitl [Ho]; · iexact Ho
    iexact Hs
  iintro ⟨Hdb, Hwb, Ho, Hs⟩
  iapply (pass_spec m K c px py pz hx hy hz k l oD hD hwD oA hA hwA oB hB hoD hoA hoB hl _) $$ [Hs HoA Haw Hr HO]
  · isplitr; · iexact HR
    isplitl [Hs HoA Haw]
    · isplitl [Hs]; · iexact Hs
      isplitl [HoA]; · iexact HoA
      iexact Haw
    isplitl [Hr]; · iexact Hr
    iexact HO
  iintro ⟨⟨Hse, Hz, Ht, HoA⟩, HO⟩
  iapply HQ
  isplitl [Hwb Ho Hse Hz Ht]
  · isplitl [Hwb]; · iexact Hwb
    isplitl [Ho]; · iexact Ho
    isplitl [Hse]; · iexact Hse
    isplitl [Hz]; · iexact Hz
    iexact Ht
  isplitl [HoA]; · iexact HoA
  isplitl [Hdb]; · iexact Hdb
  iexact HO

end Column

/-- What the second stretch takes. -/
def pre2 (c : Dev nD) : sProp 𝕄 :=
  iprop(ow c second ∗ fly c 5 NW iprop(lDy c (qD c) (dyB m c) ∗ pDy c (qD c) (dyB m c)) ∗ (∃ f, lDb c f)
    ∗ bigSep Finset.univ (room2 m c) ∗ bigSep Finset.univ (ready2 c) ∗ (∃ f, pRes c (qA c) f) ∗ semVal (lcell c (os 0)) 0)
/-- What it leaves. -/
def post2 (c : Dev nD) : sProp 𝕄 :=
  iprop(ow c [] ∗ ((lDy c (qD c) (dyB m c) ∗ pDy c (qD c) (dyB m c)) ∗ semVal (lcell c 5) 0) ∗ (∃ f, lDb c f)
    ∗ bigSep Finset.univ (done2 m c) ∗ fly c (os 0) NR iprop(pRes c (qA c) (OUT m c) ∗ rOut c (qA c) (OUT m c)))

theorem second_half (c : Dev nD) (Q : PUnit → sProp 𝕄) :
    iprop(records m K ∗ pre2 m c) ⊢ iprop((post2 m c -∗ Q ⟨⟩) -∗ WP c (secondHalf c) Q) := by
  obtain ⟨-, -, -, -, x0, x1, x2, x3⟩ := dev_x c
  obtain ⟨-, -, -, -, y0, y1, y2, y3⟩ := dev_y c
  obtain ⟨-, -, -, -, z0, z1, z2, z3⟩ := dev_z c
  obtain ⟨⟨a0, b0⟩, ⟨a1, b1⟩, ⟨a2, b2⟩, ⟨a3, b3⟩⟩ := off_A c
  obtain ⟨⟨d0, e0⟩, ⟨d1, e1⟩, ⟨d2, e2⟩, ⟨d3, e3⟩⟩ := off_D c
  obtain ⟨-, -, -, w4⟩ := off_wide c
  obtain ⟨r0, -⟩ := off_rows c
  unfold WP secondHalf pre2 post2
  simp only [wp_bind]
  rw [four (room2 m c), four (ready2 c), four (done2 m c)]
  iintro ⟨#HR, HO, HF, Hdb, ⟨Hr0, Hr1, Hr2, Hr3⟩, ⟨Hq0, Hq1, Hq2, Hq3⟩, Hres, Hz6⟩ HQ
  iapply (in_wait m K c 5 _ _ bDy vDy _ rfl _ _) $$ [HF HO]
  · isplitr; · iexact HR
    isplitl [HF]; · iexact HF
    iexact HO
  iintro ⟨⟨Hdy, Hpd⟩, Hz5, HO⟩
  iapply (dy_cast m c _ _ (qD c) w4 _) $$ [Hdy Hdb]
  · isplitl [Hdy]; · iexact Hdy
    iexact Hdb
  iintro ⟨Hdy, Hdb⟩
  iapply (column2 m K c _ _ _ (Fin.ext x0) (Fin.ext y0) (Fin.ext z0) 0 (dues2 1 ++ (dues2 2 ++ dues2 3)) _ _ rfl _ _ _ d0 _ _ _ _ _ _ _ _ e0 b0 a0 (by decide) _) $$ [Hr0 Hdb Hq0 HO]
  · isplitr; · iexact HR
    isplitl [Hr0]; · iexact Hr0
    isplitl [Hdb]; · iexact Hdb
    isplitl [Hq0]; · iexact Hq0
    iexact HO
  iintro ⟨Hc0, Ho0, Hdb, HO⟩
  iapply (column2 m K c _ _ _ (Fin.ext x1) (Fin.ext y1) (Fin.ext z1) 1 (dues2 2 ++ dues2 3) _ _ rfl _ _ _ d1 _ _ _ _ _ _ _ _ e1 b1 a1 (by decide) _) $$ [Hr1 Hdb Hq1 HO]
  · isplitr; · iexact HR
    isplitl [Hr1]; · iexact Hr1
    isplitl [Hdb]; · iexact Hdb
    isplitl [Hq1]; · iexact Hq1
    iexact HO
  iintro ⟨Hc1, Ho1, Hdb, HO⟩
  iapply (column2 m K c _ _ _ (Fin.ext x2) (Fin.ext y2) (Fin.ext z2) 2 (dues2 3) _ _ rfl _ _ _ d2 _ _ _ _ _ _ _ _ e2 b2 a2 (by decide) _) $$ [Hr2 Hdb Hq2 HO]
  · isplitr; · iexact HR
    isplitl [Hr2]; · iexact Hr2
    isplitl [Hdb]; · iexact Hdb
    isplitl [Hq2]; · iexact Hq2
    iexact HO
  iintro ⟨Hc2, Ho2, Hdb, HO⟩
  iapply (column2 m K c _ _ _ (Fin.ext x3) (Fin.ext y3) (Fin.ext z3) 3 [] _ _ rfl _ _ _ d3 _ _ _ _ _ _ _ _ e3 b3 a3 (by decide) _) $$ [Hr3 Hdb Hq3 HO]
  · isplitr; · iexact HR
    isplitl [Hr3]; · iexact Hr3
    isplitl [Hdb]; · iexact Hdb
    isplitl [Hq3]; · iexact Hq3
    iexact HO
  iintro ⟨Hc3, Ho3, Hdb, HO⟩
  have eo : iprop(tOut c (qA c) 0 (OUT m c) ∗ tOut c (qA c) 1 (OUT m c) ∗ tOut c (qA c) 2 (OUT m c) ∗ tOut c (qA c) 3 (OUT m c)) = (rOut c (qA c) (OUT m c) : sProp 𝕄) := by
    rw [out_tiles, four]
  iapply (out_go m c _ 0 _ (qA c) r0 _) $$ [Ho0 Ho1 Ho2 Ho3 Hres Hz6]
  · isplitl [Ho0 Ho1 Ho2 Ho3]
    · iapply (Entails.of_eq eo)
      isplitl [Ho0]; · iexact Ho0
      isplitl [Ho1]; · iexact Ho1
      isplitl [Ho2]; · iexact Ho2
      iexact Ho3
    isplitl [Hres]; · iexact Hres
    iexact Hz6
  iintro HF
  iapply HQ
  isplitl [HO]; · iexact HO
  isplitl [Hdy Hpd Hz5]
  · isplitl [Hdy Hpd]
    · isplitl [Hdy]; · iexact Hdy
      iexact Hpd
    iexact Hz5
  isplitl [Hdb]; · iexists _; iexact Hdb
  isplitl [Hc0 Hc1 Hc2 Hc3]
  · isplitl [Hc0]; · iexact Hc0
    isplitl [Hc1]; · iexact Hc1
    isplitl [Hc2]; · iexact Hc2
    iexact Hc3
  iexact HF

end Cert.KernelIdeal
-- ==== Proof.Tail.lean ====
module

public import proofs.«01_k».proof.Proof.Halves

/-! The last two stretches of the body: what arrives from the peers, and the waits for everything under way. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## Four waits of a kind -/

section Four

variable (c : Dev nD) (s : Fin 4 → Fin 8)
variable {o0 o1 o2 o3 : Fin 2 → ℕ} {h0 : TileIn o0} {h1 : TileIn o1} {h2 : TileIn o2} {h3 : TileIn o3}
variable {w0 : TileWords o0 h0} {w1 : TileWords o1 h1} {w2 : TileWords o2 h2} {w3 : TileWords o3 h3}

/-- Four waits of one family and side, one per column. -/
theorem wait_four (A : Memref sig .tc .vmem S1024x1024 .bf16) (hA : A.IsWhole) (B : Memref sig .tc .vmem S1024x1024 .bf16) (hB : B.IsWhole)
    (κ : Fin 3) (r : Bool) (hN : ∀ o h, (tileOf B o h).view.dmaCredit = N) (Q : PUnit → sProp 𝕄) :
    iprop(records m K ∗ (bigSep Finset.univ fun k : Fin 4 => await c κ r (s k)) ∗ ow c [])
      ⊢ iprop((((bigSep Finset.univ fun k : Fin 4 => iprop((bif r then landed m c κ (s k) else lent m c κ (s k)) ∗ zero c κ r (s k))) ∗ ow c []) -∗ Q ⟨⟩)
        -∗ WP c (tWait A hA B hB κ r (s 0) o0 h0 w0) (fun _ => WP c (tWait A hA B hB κ r (s 1) o1 h1 w1) (fun _ =>
          WP c (tWait A hA B hB κ r (s 2) o2 h2 w2) (fun _ => WP c (tWait A hA B hB κ r (s 3) o3 h3 w3) Q)))) := by
  rw [four, four]
  iintro ⟨#HR, ⟨H0, H1, H2, H3⟩, HO⟩ HQ
  iapply (wait_spec m K A hA B hB c κ (s 0) o0 h0 w0 [] r (hN _ _) (fun d hd => absurd hd (List.not_mem_nil)) _) $$ [H0 HO]
  · isplitr; · iexact HR
    isplitl [H0]; · iexact H0
    iexact HO
  iintro ⟨L0, Z0, HO⟩
  iapply (wait_spec m K A hA B hB c κ (s 1) o1 h1 w1 [] r (hN _ _) (fun d hd => absurd hd (List.not_mem_nil)) _) $$ [H1 HO]
  · isplitr; · iexact HR
    isplitl [H1]; · iexact H1
    iexact HO
  iintro ⟨L1, Z1, HO⟩
  iapply (wait_spec m K A hA B hB c κ (s 2) o2 h2 w2 [] r (hN _ _) (fun d hd => absurd hd (List.not_mem_nil)) _) $$ [H2 HO]
  · isplitr; · iexact HR
    isplitl [H2]; · iexact H2
    iexact HO
  iintro ⟨L2, Z2, HO⟩
  iapply (wait_spec m K A hA B hB c κ (s 3) o3 h3 w3 [] r (hN _ _) (fun d hd => absurd hd (List.not_mem_nil)) _) $$ [H3 HO]
  · isplitr; · iexact HR
    isplitl [H3]; · iexact H3
    iexact HO
  iintro ⟨L3, Z3, HO⟩
  iapply HQ
  isplitr [HO]
  · isplitl [L0 Z0]
    · isplitl [L0]; · iexact L0
      iexact Z0
    isplitl [L1 Z1]
    · isplitl [L1]; · iexact L1
      iexact Z1
    isplitl [L2 Z2]
    · isplitl [L2]; · iexact L2
      iexact Z2
    isplitl [L3]; · iexact L3
    iexact Z3
  iexact HO

/-- Four arrivals from a near device. -/
theorem arrive_four (Q : PUnit → sProp 𝕄) :
    iprop(records m K ∗ (bigSep Finset.univ fun k : Fin 4 => iprop(await c 2 true (s k) ∗ await c 1 true (s k))) ∗ ow c [])
      ⊢ iprop((((bigSep Finset.univ fun k : Fin 4 => iprop((landed m c 2 (s k) ∗ landed m c 1 (s k)) ∗ (zero c 2 true (s k) ∗ zero c 1 true (s k)))) ∗ ow c []) -∗ Q ⟨⟩)
        -∗ WP c (arrive (s 0) o0 h0 w0) (fun _ => WP c (arrive (s 1) o1 h1 w1) (fun _ => WP c (arrive (s 2) o2 h2 w2) (fun _ => WP c (arrive (s 3) o3 h3 w3) Q)))) := by
  rw [four, four]
  iintro ⟨#HR, ⟨H0, H1, H2, H3⟩, HO⟩ HQ
  iapply (arrive_spec m K c (s 0) o0 h0 w0 _) $$ [H0 HO]
  · isplitr; · iexact HR
    isplitl [H0]; · iexact H0
    iexact HO
  iintro ⟨L0, Z0, HO⟩
  iapply (arrive_spec m K c (s 1) o1 h1 w1 _) $$ [H1 HO]
  · isplitr; · iexact HR
    isplitl [H1]; · iexact H1
    iexact HO
  iintro ⟨L1, Z1, HO⟩
  iapply (arrive_spec m K c (s 2) o2 h2 w2 _) $$ [H2 HO]
  · isplitr; · iexact HR
    isplitl [H2]; · iexact H2
    iexact HO
  iintro ⟨L2, Z2, HO⟩
  iapply (arrive_spec m K c (s 3) o3 h3 w3 _) $$ [H3 HO]
  · isplitr; · iexact HR
    isplitl [H3]; · iexact H3
    iexact HO
  iintro ⟨L3, Z3, HO⟩
  iapply HQ
  isplitr [HO]
  · isplitl [L0 Z0]
    · isplitl [L0]; · iexact L0
      iexact Z0
    isplitl [L1 Z1]
    · isplitl [L1]; · iexact L1
      iexact Z1
    isplitl [L2 Z2]
    · isplitl [L2]; · iexact L2
      iexact Z2
    isplitl [L3]; · iexact L3
    iexact Z3
  iexact HO

/-- Four columns' sends to a near device have left. -/
theorem drain_four (Q : PUnit → sProp 𝕄) :
    iprop(records m K ∗ (bigSep Finset.univ fun k : Fin 4 => iprop(await c 1 false (s k) ∗ await c 2 false (s k))) ∗ ow c [])
      ⊢ iprop((((bigSep Finset.univ fun k : Fin 4 => iprop((lent m c 1 (s k) ∗ lent m c 2 (s k)) ∗ (zero c 1 false (s k) ∗ zero c 2 false (s k)))) ∗ ow c []) -∗ Q ⟨⟩)
        -∗ WP c (drain (s 0) o0 h0 w0) (fun _ => WP c (drain (s 1) o1 h1 w1) (fun _ => WP c (drain (s 2) o2 h2 w2) (fun _ => WP c (drain (s 3) o3 h3 w3) Q)))) := by
  rw [four, four]
  iintro ⟨#HR, ⟨H0, H1, H2, H3⟩, HO⟩ HQ
  iapply (drain_spec m K c (s 0) o0 h0 w0 _) $$ [H0 HO]
  · isplitr; · iexact HR
    isplitl [H0]; · iexact H0
    iexact HO
  iintro ⟨L0, Z0, HO⟩
  iapply (drain_spec m K c (s 1) o1 h1 w1 _) $$ [H1 HO]
  · isplitr; · iexact HR
    isplitl [H1]; · iexact H1
    iexact HO
  iintro ⟨L1, Z1, HO⟩
  iapply (drain_spec m K c (s 2) o2 h2 w2 _) $$ [H2 HO]
  · isplitr; · iexact HR
    isplitl [H2]; · iexact H2
    iexact HO
  iintro ⟨L2, Z2, HO⟩
  iapply (drain_spec m K c (s 3) o3 h3 w3 _) $$ [H3 HO]
  · isplitr; · iexact HR
    isplitl [H3]; · iexact H3
    iexact HO
  iintro ⟨L3, Z3, HO⟩
  iapply HQ
  isplitr [HO]
  · isplitl [L0 Z0]
    · isplitl [L0]; · iexact L0
      iexact Z0
    isplitl [L1 Z1]
    · isplitl [L1]; · iexact L1
      iexact Z1
    isplitl [L2 Z2]
    · isplitl [L2]; · iexact L2
      iexact Z2
    isplitl [L3]; · iexact L3
    iexact Z3
  iexact HO

end Four

/-! ## The arrivals -/

/-- The rows that arrived across x for the second quarter. -/
theorem landed_D (c : Dev nD) : (bigSep Finset.univ fun k : Fin 4 => iprop(landed m c 0 (hi k) ∗ zero c 0 true (hi k)) : sProp 𝕄)
    = iprop(rRecv c (qD c) (RB m c) ∗ bigSep Finset.univ fun k : Fin 4 => zero c 0 true (hi k)) := by
  rw [bigSep_sep', recv_tiles, bigSep_congr (fun k _ => landed_x_hi m c k)]
/-- The rows that arrived from the near device along y. -/
theorem landed_Y (c : Dev nD) :
    (bigSep Finset.univ fun k : Fin 4 => iprop((landed m c 2 (lo k) ∗ landed m c 1 (lo k)) ∗ (zero c 2 true (lo k) ∗ zero c 1 true (lo k))) : sProp 𝕄)
    = iprop((rLoc c (qY c) (RL m c) ∗ rRecv c (qY c) (RB m c)) ∗ bigSep Finset.univ fun k : Fin 4 => iprop(zero c 2 true (lo k) ∗ zero c 1 true (lo k))) := by
  rw [bigSep_sep', bigSep_sep', recv_tiles, loc_tiles, bigSep_congr (fun k _ => landed_l_lo m c k), bigSep_congr (fun k _ => landed_f_lo m c k)]
/-- The rows that arrived from the near device along z. -/
theorem landed_Z (c : Dev nD) :
    (bigSep Finset.univ fun k : Fin 4 => iprop((landed m c 2 (hi k) ∗ landed m c 1 (hi k)) ∗ (zero c 2 true (hi k) ∗ zero c 1 true (hi k))) : sProp 𝕄)
    = iprop((rLoc c (qZ c) (RL m c) ∗ rRecv c (qZ c) (RB m c)) ∗ bigSep Finset.univ fun k : Fin 4 => iprop(zero c 2 true (hi k) ∗ zero c 1 true (hi k))) := by
  rw [bigSep_sep', bigSep_sep', recv_tiles, loc_tiles, bigSep_congr (fun k _ => landed_l_hi m c k), bigSep_congr (fun k _ => landed_f_hi m c k)]

/-- What the third stretch takes. -/
def pre3 (c : Dev nD) : sProp 𝕄 :=
  iprop(ow c [] ∗ (bigSep Finset.univ fun k : Fin 4 => await c 0 true (hi k))
    ∗ (bigSep Finset.univ fun k : Fin 4 => iprop(await c 2 true (lo k) ∗ await c 1 true (lo k)))
    ∗ (bigSep Finset.univ fun k : Fin 4 => iprop(await c 2 true (hi k) ∗ await c 1 true (hi k)))
    ∗ (rOut c (qD c) (PA m c) ∗ (∃ f, pRes c (qD c) f) ∗ semVal (lcell c (os 1)) 0)
    ∗ ((∃ f, rOut c (qY c) f) ∗ (∃ f, pRes c (qY c) f) ∗ semVal (lcell c (os 2)) 0)
    ∗ ((∃ f, rOut c (qZ c) f) ∗ (∃ f, pRes c (qZ c) f) ∗ semVal (lcell c (os 3)) 0))
/-- What it leaves. -/
def post3 (c : Dev nD) : sProp 𝕄 :=
  iprop(ow c [] ∗ (bigSep Finset.univ fun k : Fin 4 => zero c 0 true (hi k))
    ∗ (bigSep Finset.univ fun k : Fin 4 => iprop(zero c 2 true (lo k) ∗ zero c 1 true (lo k)))
    ∗ (bigSep Finset.univ fun k : Fin 4 => iprop(zero c 2 true (hi k) ∗ zero c 1 true (hi k)))
    ∗ rRecv c (qD c) (RB m c) ∗ (rLoc c (qY c) (RL m c) ∗ rRecv c (qY c) (RB m c)) ∗ (rLoc c (qZ c) (RL m c) ∗ rRecv c (qZ c) (RB m c))
    ∗ fly c (os 1) NR iprop(pRes c (qD c) (OUT m c) ∗ rOut c (qD c) (OUT m c))
    ∗ fly c (os 2) NR iprop(pRes c (qY c) (OUT m c) ∗ rOut c (qY c) (OUT m c))
    ∗ fly c (os 3) NR iprop(pRes c (qZ c) (OUT m c) ∗ rOut c (qZ c) (OUT m c)))

theorem collect_spec (c : Dev nD) (Q : PUnit → sProp 𝕄) :
    iprop(records m K ∗ pre3 m c) ⊢ iprop((post3 m c -∗ Q ⟨⟩) -∗ WP c (collect c) Q) := by
  obtain ⟨-, ⟨r1, r1'⟩, ⟨r2, r2'⟩, ⟨r3, r3'⟩⟩ := off_rows c
  unfold WP collect pre3 post3
  simp only [wp_bind]
  iintro ⟨#HR, HO, HaD, HaY, HaZ, ⟨HoD, HpD, HzD⟩, ⟨HoY, HpY, HzY⟩, ⟨HoZ, HpZ, HzZ⟩⟩ HQ
  iapply (wait_four m K c hi vSend hSend vRecv hRecv 0 true (fun _ _ => rfl) _) $$ [HaD HO]
  · isplitr; · iexact HR
    isplitl [HaD]; · iexact HaD
    iexact HO
  dsimp only [cond]
  rw [landed_D]
  iintro ⟨⟨HrD, H0⟩, HO⟩
  iapply (add_rows_spec m c _ _ r1 _) $$ [HoD HrD]
  · isplitl [HoD]; · iexact HoD
    iexact HrD
  iintro ⟨HoD, HrD⟩
  iapply (out_go m c _ 1 _ (qD c) r1' _) $$ [HoD HpD HzD]
  · isplitl [HoD]; · iexact HoD
    isplitl [HpD]; · iexact HpD
    iexact HzD
  iintro HF1
  iapply (arrive_four m K c lo _) $$ [HaY HO]
  · isplitr; · iexact HR
    isplitl [HaY]; · iexact HaY
    iexact HO
  rw [landed_Y]
  iintro ⟨⟨⟨HlY, HrY⟩, H1⟩, HO⟩
  iapply (sum_rows_spec m c _ _ (qY c) (.inl rfl) r2 _) $$ [HoY HlY HrY]
  · isplitl [HoY]; · iexact HoY
    isplitl [HlY]; · iexact HlY
    iexact HrY
  iintro ⟨HoY, HlY, HrY⟩
  iapply (out_go m c _ 2 _ (qY c) r2' _) $$ [HoY HpY HzY]
  · isplitl [HoY]; · iexact HoY
    isplitl [HpY]; · iexact HpY
    iexact HzY
  iintro HF2
  iapply (arrive_four m K c hi _) $$ [HaZ HO]
  · isplitr; · iexact HR
    isplitl [HaZ]; · iexact HaZ
    iexact HO
  rw [landed_Z]
  iintro ⟨⟨⟨HlZ, HrZ⟩, H2⟩, HO⟩
  iapply (sum_rows_spec m c _ _ (qZ c) (.inr rfl) r3 _) $$ [HoZ HlZ HrZ]
  · isplitl [HoZ]; · iexact HoZ
    isplitl [HlZ]; · iexact HlZ
    iexact HrZ
  iintro ⟨HoZ, HlZ, HrZ⟩
  iapply (out_go m c _ 3 _ (qZ c) r3' _) $$ [HoZ HpZ HzZ]
  · isplitl [HoZ]; · iexact HoZ
    isplitl [HpZ]; · iexact HpZ
    iexact HzZ
  iintro HF3
  iapply HQ
  isplitl [HO]; · iexact HO
  isplitl [H0]; · iexact H0
  isplitl [H1]; · iexact H1
  isplitl [H2]; · iexact H2
  isplitl [HrD]; · iexact HrD
  isplitl [HlY HrY]
  · isplitl [HlY]; · iexact HlY
    iexact HrY
  isplitl [HlZ HrZ]
  · isplitl [HlZ]; · iexact HlZ
    iexact HrZ
  isplitl [HF1]; · iexact HF1
  isplitl [HF2]; · iexact HF2
  iexact HF3

/-! ## The last waits -/

/-- What the last stretch takes. -/
def pre4 (c : Dev nD) : sProp 𝕄 :=
  iprop(ow c []
    ∗ (bigSep Finset.univ fun k : Fin 4 => await c 0 false (lo k)) ∗ (bigSep Finset.univ fun k : Fin 4 => await c 0 false (hi k))
    ∗ (bigSep Finset.univ fun k : Fin 4 => iprop(await c 1 false (lo k) ∗ await c 2 false (lo k)))
    ∗ (bigSep Finset.univ fun k : Fin 4 => iprop(await c 1 false (hi k) ∗ await c 2 false (hi k)))
    ∗ (bigSep Finset.univ fun j : Fin 4 => fly c (os j) NR iprop(pRes c (quart c j) (OUT m c) ∗ rOut c (quart c j) (OUT m c))))
/-- What it leaves. -/
def post4 (c : Dev nD) : sProp 𝕄 :=
  iprop(ow c []
    ∗ (bigSep Finset.univ fun k : Fin 4 => iprop(lent m c 0 (lo k) ∗ zero c 0 false (lo k))) ∗ (bigSep Finset.univ fun k : Fin 4 => iprop(lent m c 0 (hi k) ∗ zero c 0 false (hi k)))
    ∗ (bigSep Finset.univ fun k : Fin 4 => iprop((lent m c 1 (lo k) ∗ lent m c 2 (lo k)) ∗ (zero c 1 false (lo k) ∗ zero c 2 false (lo k))))
    ∗ (bigSep Finset.univ fun k : Fin 4 => iprop((lent m c 1 (hi k) ∗ lent m c 2 (hi k)) ∗ (zero c 1 false (hi k) ∗ zero c 2 false (hi k))))
    ∗ (bigSep Finset.univ fun j : Fin 4 => iprop((pRes c (quart c j) (OUT m c) ∗ rOut c (quart c j) (OUT m c)) ∗ semVal (lcell c (os j)) 0)))

theorem finish_spec (c : Dev nD) (Q : PUnit → sProp 𝕄) :
    iprop(records m K ∗ pre4 m c) ⊢ iprop((post4 m c -∗ Q ⟨⟩) -∗ WP c (finish c) Q) := by
  unfold WP finish pre4 post4
  simp only [wp_bind]
  rw [four (fun j : Fin 4 => fly c (os j) NR _), four (fun j : Fin 4 => iprop((pRes c (quart c j) (OUT m c) ∗ rOut c (quart c j) (OUT m c)) ∗ _))]
  iintro ⟨#HR, HO, Ha, Hb, Hc, Hd, ⟨F0, F1, F2, F3⟩⟩ HQ
  iapply (out_wait m K c _ [] 0 _ _ _) $$ [F0 HO]
  · isplitr; · iexact HR
    isplitl [F0]; · iexact F0
    iexact HO
  iintro ⟨F0, Z0, HO⟩
  iapply (out_wait m K c _ [] 1 _ _ _) $$ [F1 HO]
  · isplitr; · iexact HR
    isplitl [F1]; · iexact F1
    iexact HO
  iintro ⟨F1, Z1, HO⟩
  iapply (out_wait m K c _ [] 2 _ _ _) $$ [F2 HO]
  · isplitr; · iexact HR
    isplitl [F2]; · iexact F2
    iexact HO
  iintro ⟨F2, Z2, HO⟩
  iapply (out_wait m K c _ [] 3 _ _ _) $$ [F3 HO]
  · isplitr; · iexact HR
    isplitl [F3]; · iexact F3
    iexact HO
  iintro ⟨F3, Z3, HO⟩
  iapply (wait_four m K c lo vRecv hRecv vSend hSend 0 false (fun _ _ => rfl) _) $$ [Ha HO]
  · isplitr; · iexact HR
    isplitl [Ha]; · iexact Ha
    iexact HO
  dsimp only [cond]
  iintro ⟨Ha, HO⟩
  iapply (wait_four m K c hi vRecv hRecv vSend hSend 0 false (fun _ _ => rfl) _) $$ [Hb HO]
  · isplitr; · iexact HR
    isplitl [Hb]; · iexact Hb
    iexact HO
  dsimp only [cond]
  iintro ⟨Hb, HO⟩
  iapply (drain_four m K c lo _) $$ [Hc HO]
  · isplitr; · iexact HR
    isplitl [Hc]; · iexact Hc
    iexact HO
  iintro ⟨Hc, HO⟩
  iapply (drain_four m K c hi _) $$ [Hd HO]
  · isplitr; · iexact HR
    isplitl [Hd]; · iexact Hd
    iexact HO
  iintro ⟨Hd, HO⟩
  iapply HQ
  isplitl [HO]; · iexact HO
  isplitl [Ha]; · iexact Ha
  isplitl [Hb]; · iexact Hb
  isplitl [Hc]; · iexact Hc
  isplitl [Hd]; · iexact Hd
  isplitl [F0 Z0]
  · isplitl [F0]; · iexact F0
    iexact Z0
  isplitl [F1 Z1]
  · isplitl [F1]; · iexact F1
    iexact Z1
  isplitl [F2 Z2]
  · isplitl [F2]; · iexact F2
    iexact Z2
  isplitl [F3]; · iexact F3
  iexact Z3

end Cert.KernelIdeal
-- ==== Proof.Body.lean ====
module

public import proofs.«01_k».proof.Proof.Tail

/-! The whole body: from a device's share of the launch to its share of the end. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## Regrouping -/

/-- A separating conjunction taken in another order. -/
theorem deal {A B : Type} [Fintype A] [Fintype B] (e : A → B) (h : Function.Bijective e) (Φ : B → sProp 𝕄) :
    bigSep Finset.univ Φ = bigSep Finset.univ fun a => Φ (e a) := bigSep_univ_equiv (Equiv.ofBijective e h) Φ

/-- Eight slots: two groups of four columns. -/
theorem eight (Φ : Fin 8 → sProp 𝕄) :
    bigSep Finset.univ Φ = iprop((bigSep Finset.univ fun k : Fin 4 => Φ (lo k)) ∗ bigSep Finset.univ fun k : Fin 4 => Φ (hi k)) := by
  rw [deal (Sum.elim lo hi) (by decide) Φ, bigSep_univ_sum]; rfl

/-- The transfers, family by family. -/
theorem families (Φ : Fin 3 × Fin 8 → sProp 𝕄) :
    bigSep Finset.univ Φ = iprop(((bigSep Finset.univ fun k : Fin 4 => Φ (0, lo k)) ∗ bigSep Finset.univ fun k : Fin 4 => Φ (0, hi k))
      ∗ ((bigSep Finset.univ fun k : Fin 4 => Φ (1, lo k)) ∗ bigSep Finset.univ fun k : Fin 4 => Φ (1, hi k))
      ∗ ((bigSep Finset.univ fun k : Fin 4 => Φ (2, lo k)) ∗ bigSep Finset.univ fun k : Fin 4 => Φ (2, hi k))) := by
  rw [bigSep_univ_prod, bigSep_univ_eq_bigSepL [0, 1, 2] (by decide) (by decide), bigSepL_cons_cons, bigSepL_cons_cons, bigSepL_singleton,
    eight, eight, eight]
  rfl

/-- The transfers' cells: those where tiles land and those where they leave. -/
theorem sides (Φ : Fin 3 × Bool × Fin 8 → sProp 𝕄) :
    bigSep Finset.univ Φ = iprop((bigSep Finset.univ fun x : Fin 3 × Fin 8 => Φ (x.1, true, x.2)) ∗ bigSep Finset.univ fun x : Fin 3 × Fin 8 => Φ (x.1, false, x.2)) := by
  rw [deal (Sum.elim (fun x : Fin 3 × Fin 8 => (x.1, true, x.2)) (fun x : Fin 3 × Fin 8 => (x.1, false, x.2))) (by decide +kernel) Φ, bigSep_univ_sum]; rfl

/-- The ten copies inside a device. -/
theorem ten (Φ : Fin 10 → sProp 𝕄) :
    bigSep Finset.univ Φ = iprop((bigSep Finset.univ fun k : Fin 4 => Φ (wi k)) ∗ (Φ 4 ∗ Φ 5) ∗ bigSep Finset.univ fun j : Fin 4 => Φ (os j)) := by
  rw [deal (Sum.elim wi (Sum.elim (fun i : Fin 2 => if i = 0 then 4 else 5) os)) (by decide) Φ, bigSep_univ_sum, bigSep_univ_sum, bigSep_univ_two]; rfl

section Quarters

variable {ℓ : Loc nD τ sig} (S : Fin 4 → Finset (Idx ℓ)) (hS : Finset.univ.biUnion S = Finset.univ)
  (hd : ∀ q ∈ (Finset.univ : Finset (Fin 4)), ∀ q' ∈ (Finset.univ : Finset (Fin 4)), q ≠ q' → Disjoint (S q) (S q')) (c : Dev nD)
include hS hd

/-- A whole buffer, quarter by quarter in a device's order. -/
theorem quarters (f : Buf (Elt F) ℓ) : (ℓ ↦{fullShare} f : sProp 𝕄) = iprop((ℓ ↦[S (qA c)]{fullShare} f) ∗ (ℓ ↦[S (qD c)]{fullShare} f)
    ∗ (ℓ ↦[S (qY c)]{fullShare} f) ∗ (ℓ ↦[S (qZ c)]{fullShare} f)) := by
  have h := cut (F := F) S Finset.univ hS hd f
  rw [deal (quart c) (quartE c).bijective, four] at h
  exact h
theorem quarters_any : (iprop(∃ f, ℓ ↦{fullShare} f) : sProp 𝕄) ⊢ iprop((∃ f, ℓ ↦[S (qA c)]{fullShare} f) ∗ (∃ f, ℓ ↦[S (qD c)]{fullShare} f)
    ∗ (∃ f, ℓ ↦[S (qY c)]{fullShare} f) ∗ (∃ f, ℓ ↦[S (qZ c)]{fullShare} f)) := by
  iintro ⟨%f, H⟩
  ihave H := (Entails.of_eq (quarters S hS hd c f)) $$ H
  icases H with ⟨H1, H2, H3, H4⟩
  isplitl [H1]; · iexists f; iexact H1
  isplitl [H2]; · iexists f; iexact H2
  isplitl [H3]; · iexists f; iexact H3
  iexists f; iexact H4
theorem quarters_back (f₀ : Buf (Elt F) ℓ) : (iprop((∃ f, ℓ ↦[S (qA c)]{fullShare} f) ∗ (∃ f, ℓ ↦[S (qD c)]{fullShare} f)
    ∗ (∃ f, ℓ ↦[S (qY c)]{fullShare} f) ∗ (∃ f, ℓ ↦[S (qZ c)]{fullShare} f)) : sProp 𝕄) ⊢ iprop(∃ f, ℓ ↦{fullShare} f) := by
  have h := mend (F := F) S Finset.univ hS hd f₀
  rw [deal (quart c) (quartE c).bijective, four] at h
  exact h

end Quarters

section Parts

variable {ℓ : Loc nD τ sig} (S : Fin 4 → Finset (Idx ℓ)) (T : Finset (Idx ℓ)) (hT : Finset.univ.biUnion S = T)
  (hd : ∀ q ∈ (Finset.univ : Finset (Fin 4)), ∀ q' ∈ (Finset.univ : Finset (Fin 4)), q ≠ q' → Disjoint (S q) (S q'))
include hT hd

/-- A part of unknown contents, in four. -/
theorem cut_any : (iprop(∃ f, ℓ ↦[T]{fullShare} f) : sProp 𝕄) ⊢ bigSep Finset.univ fun k => iprop(∃ f, ℓ ↦[S k]{fullShare} f) := by
  iintro ⟨%f, H⟩
  ihave H := (Entails.of_eq (cut S T hT hd f)) $$ H
  iapply (each fun k => show (ℓ ↦[S k]{fullShare} f : sProp 𝕄) ⊢ iprop(∃ f, ℓ ↦[S k]{fullShare} f) by iintro H; iexists f; iexact H)
  iexact H

end Parts

/-! ## The start -/

/-- A device's share of the exchange: what it signals with, waits with and sends with. -/
def link (c : Dev nD) : sProp 𝕄 :=
  iprop((dutyTok ER (bcell (along c 0)) 0 0 ∗ dutyTok ER (bcell (along c 1)) 0 1 ∗ dutyTok ER (bcell (along c 2)) 0 2)
    ∗ (cred (tallyAt (bcell c) () 3) ∗ atPos ER (bcell c) 0 ∅ 0)
    ∗ (bigSep Finset.univ fun x : Fin 3 × Fin 8 => tok c x.1 x.2) ∗ (bigSep Finset.univ fun x : Fin 3 × Fin 8 => await c x.1 true x.2))

/-- A buffer of a device at unknown contents. -/
abbrev any (c : Dev nD) (b : Ref sig .tc) : sProp 𝕄 := iprop(∃ f : Buf (Elt F) ((c : Thread nD τ).loc b), ((c : Thread nD τ).loc b) ↦{fullShare} f)
/-- The body's own buffers. -/
def scratch (c : Dev nD) : sProp 𝕄 :=
  iprop(any c cc0_scratch0 ∗ any c cc0_scratch1 ∗ any c cc0_scratch2 ∗ any c cc0_scratch3 ∗ any c cc0_scratch4 ∗ any c cc0_scratch5 ∗ any c cc0_scratch6 ∗ any c cc0_scratch7)

/-- What a device starts with. -/
def initial (c : Dev nD) : sProp 𝕄 :=
  iprop(ow c dues ∗ link c
    ∗ ((((c : Thread nD τ).loc main_arg0) ↦{fullShare} dyB m c) ∗ (((c : Thread nD τ).loc main_arg1) ↦{fullShare} wB m c) ∗ any c main_v1)
    ∗ scratch c ∗ (bigSep Finset.univ fun i : Fin 10 => semVal (lcell c i) 0))
/-- What it ends with. -/
def final (c : Dev nD) : sProp 𝕄 :=
  iprop(ow c []
    ∗ ((((c : Thread nD τ).loc main_arg0) ↦{fullShare} dyB m c) ∗ (((c : Thread nD τ).loc main_arg1) ↦{fullShare} wB m c) ∗ (((c : Thread nD τ).loc main_v1) ↦{fullShare} OUT m c))
    ∗ scratch c ∗ (bigSep Finset.univ fun i : Fin 10 => semVal (lcell c i) 0)
    ∗ (bigSep Finset.univ fun x : Fin 3 × Bool × Fin 8 => zero c x.1 x.2.1 x.2.2) ∗ semVal (bcell c) 0)

/-- Rows of the buffer of what is sent. -/
abbrev rSend (c : Dev nD) (q : Fin 4) (f : Buf (Elt F) ((c : Thread nD τ).loc cc0_scratch5)) : sProp 𝕄 := ((c : Thread nD τ).loc cc0_scratch5) ↦[rS q]{fullShare} f

/-- Parts of buffers no step touches. -/
def keep (c : Dev nD) : sProp 𝕄 :=
  iprop((pDy c (qY c) (dyB m c) ∗ pDy c (qZ c) (dyB m c)) ∗ ((∃ f, lDy c (qY c) f) ∗ (∃ f, lDy c (qZ c) f))
    ∗ ((∃ f, rSend c (qY c) f) ∗ (∃ f, rSend c (qZ c) f)) ∗ ((∃ f, rLoc c (qA c) f) ∗ (∃ f, rLoc c (qD c) f)))
/-- The rows of the near devices' quarters, to be filled. -/
def rows (c : Dev nD) : sProp 𝕄 :=
  iprop(((∃ f, rOut c (qY c) f) ∗ (∃ f, rOut c (qZ c) f)) ∗ ((∃ f, pRes c (qD c) f) ∗ (∃ f, pRes c (qY c) f) ∗ (∃ f, pRes c (qZ c) f))
    ∗ (semVal (lcell c (os 1)) 0 ∗ semVal (lcell c (os 2)) 0 ∗ semVal (lcell c (os 3)) 0))
/-- The waits for tiles, after the first ones across x. -/
def waits (c : Dev nD) : sProp 𝕄 :=
  iprop((bigSep Finset.univ fun k : Fin 4 => await c 0 true (hi k))
    ∗ ((bigSep Finset.univ fun k : Fin 4 => await c 1 true (lo k)) ∗ bigSep Finset.univ fun k : Fin 4 => await c 1 true (hi k))
    ∗ ((bigSep Finset.univ fun k : Fin 4 => await c 2 true (lo k)) ∗ bigSep Finset.univ fun k : Fin 4 => await c 2 true (hi k)))

/-- What the first stretch leaves aside. -/
def rest1 (c : Dev nD) : sProp 𝕄 :=
  iprop(keep m c ∗ ((bigSep Finset.univ fun k : Fin 4 => iprop(∃ f, tOut c (qD c) k f)) ∗ bigSep Finset.univ fun k : Fin 4 => iprop(∃ f, tSend c (qD c) k fullShare f))
    ∗ (bigSep Finset.univ fun k : Fin 4 => await c 0 true (lo k)) ∗ ((∃ f, pRes c (qA c) f) ∗ semVal (lcell c (os 0)) 0) ∗ rows c ∗ waits c)

theorem pay_x (c : Dev nD) : (barPay (along c 0) 0 : sProp 𝕄) = bigSep Finset.univ fun k : Fin 4 => iprop(hole c 0 (lo k) ∗ hole c 0 (hi k)) := by
  unfold barPay; rw [if_pos rfl, show xp (along c 0) = c from xp_xp c]
theorem pay_y (c : Dev nD) : (barPay (along c 1) 1 : sProp 𝕄) = bigSep Finset.univ fun k : Fin 4 => iprop(hole c 1 (lo k) ∗ hole c 2 (lo k)) := by
  unfold barPay; rw [if_neg (by decide), if_pos rfl, show yp (along c 1) = c from yp_yp c]
theorem pay_z (c : Dev nD) : (barPay (along c 2) 2 : sProp 𝕄) = bigSep Finset.univ fun k : Fin 4 => iprop(hole c 1 (hi k) ∗ hole c 2 (hi k)) := by
  unfold barPay; rw [if_neg (by decide), if_neg (by decide), show zp (along c 2) = c from zp_zp c]

/-- The receiving buffers make what the device's three signals hand over. -/
theorem pays (c : Dev nD) : (iprop(any c cc0_scratch6 ∗ any c cc0_scratch7) : sProp 𝕄)
    ⊢ iprop((barPay (along c 0) 0 ∗ barPay (along c 1) 1 ∗ barPay (along c 2) 2) ∗ ((∃ f, rLoc c (qA c) f) ∗ (∃ f, rLoc c (qD c) f))) := by
  rw [pay_x, pay_y, pay_z, bigSep_sep', bigSep_sep', bigSep_sep', bigSep_congr (fun k _ => hole_x_lo c k), bigSep_congr (fun k _ => hole_x_hi c k),
    bigSep_congr (fun k _ => hole_f_lo c k), bigSep_congr (fun k _ => hole_f_hi c k), bigSep_congr (fun k _ => hole_l_lo c k), bigSep_congr (fun k _ => hole_l_hi c k)]
  iintro ⟨H6, H7⟩
  ihave H6 := (quarters_any (F := F) (ℓ := (c : Thread nD τ).loc cc0_scratch6) rS rS_cover rS_disjoint c) $$ H6
  ihave H7 := (quarters_any (F := F) (ℓ := (c : Thread nD τ).loc cc0_scratch7) rS rS_cover rS_disjoint c) $$ H7
  icases H6 with ⟨HA, HD, HY, HZ⟩
  icases H7 with ⟨LA, LD, LY, LZ⟩
  isplitr [LA LD]
  · isplitl [HA HD]
    · isplitl [HA]
      · iapply (cut_any (ℓ := (c : Thread nD τ).loc cc0_scratch6) (tS (qA c)) (rS (qA c)) (tS_cover _) (tS_disjoint _)); iexact HA
      iapply (cut_any (ℓ := (c : Thread nD τ).loc cc0_scratch6) (tS (qD c)) (rS (qD c)) (tS_cover _) (tS_disjoint _)); iexact HD
    isplitl [HY LY]
    · isplitl [HY]
      · iapply (cut_any (ℓ := (c : Thread nD τ).loc cc0_scratch6) (tS (qY c)) (rS (qY c)) (tS_cover _) (tS_disjoint _)); iexact HY
      iapply (cut_any (ℓ := (c : Thread nD τ).loc cc0_scratch7) (tS (qY c)) (rS (qY c)) (tS_cover _) (tS_disjoint _)); iexact LY
    isplitl [HZ]
    · iapply (cut_any (ℓ := (c : Thread nD τ).loc cc0_scratch6) (tS (qZ c)) (rS (qZ c)) (tS_cover _) (tS_disjoint _)); iexact HZ
    iapply (cut_any (ℓ := (c : Thread nD τ).loc cc0_scratch7) (tS (qZ c)) (rS (qZ c)) (tS_cover _) (tS_disjoint _)); iexact LZ
  isplitl [LA]; · iexact LA
  iexact LD

/-- What a device starts with, laid out for the first stretch. -/
theorem open_start (c : Dev nD) : initial m c ⊢ iprop(pre1 m c ∗ rest1 m c) := by
  have r0 : bigSep Finset.univ (room0 m c) = iprop((bigSep Finset.univ fun k : Fin 4 => pW c k (wB m c)) ∗ (bigSep Finset.univ fun k : Fin 4 => iprop(∃ f, lW c k f))
      ∗ bigSep Finset.univ fun k : Fin 4 => semVal (lcell c (wi k)) 0) := by
    rw [← bigSep_sep', ← bigSep_sep']; rfl
  have r1 : bigSep Finset.univ (room1 (F := F) c) = iprop((bigSep Finset.univ fun k : Fin 4 => iprop(∃ f, lWb c k f)) ∗ (bigSep Finset.univ fun k : Fin 4 => iprop(∃ f, tOut c (qA c) k f))
      ∗ bigSep Finset.univ fun k : Fin 4 => iprop(∃ f, tSend c (qA c) k fullShare f)) := by
    rw [← bigSep_sep', ← bigSep_sep']; rfl
  have t1 : bigSep Finset.univ (tok1 (F := F) c) = iprop((bigSep Finset.univ fun k : Fin 4 => tok c 0 (lo k)) ∗ (bigSep Finset.univ fun k : Fin 4 => tok c 2 (lo k))
      ∗ bigSep Finset.univ fun k : Fin 4 => tok c 2 (hi k)) := by
    rw [← bigSep_sep', ← bigSep_sep']; rfl
  have t2 : bigSep Finset.univ (tok2 (F := F) c) = iprop((bigSep Finset.univ fun k : Fin 4 => tok c 0 (hi k)) ∗ (bigSep Finset.univ fun k : Fin 4 => tok c 1 (lo k))
      ∗ bigSep Finset.univ fun k : Fin 4 => tok c 1 (hi k)) := by
    rw [← bigSep_sep', ← bigSep_sep']; rfl
  unfold initial link scratch pre1 rest1 keep rows waits
  rw [families, families, ten, four (fun j : Fin 4 => semVal (lcell c (os j)) 0), r0, r1, t1, t2,
    quarters (F := F) (ℓ := (c : Thread nD τ).loc main_arg0) wS wS_cover wS_disjoint c, cut (F := F) (ℓ := (c : Thread nD τ).loc main_arg1) wS _ wS_cover wS_disjoint]
  iintro ⟨HO, ⟨Hts, ⟨Hcr, Hat⟩, ⟨⟨T1, T4⟩, ⟨T5, T6⟩, ⟨T2, T3⟩⟩, ⟨⟨A1, A4⟩, A5, A2⟩⟩, ⟨⟨DA, DD, DY, DZ⟩, HW, Hres⟩,
    ⟨H0, H1, H2, H3, H4, H5, H6, H7⟩, ⟨Zw, ⟨Z4, Z5⟩, ⟨Z6, Z7, Z8, Z9⟩⟩⟩
  ihave Hp := (pays (F := F) c) $$ [H6 H7]
  · isplitl [H6]; · iexact H6
    iexact H7
  icases Hp with ⟨Hp, LA, LD⟩
  ihave Hres := (quarters_any (F := F) (ℓ := (c : Thread nD τ).loc main_v1) rS rS_cover rS_disjoint c) $$ Hres
  icases Hres with ⟨RA, RD, RY, RZ⟩
  ihave H0 := (cut_any (F := F) (ℓ := (c : Thread nD τ).loc cc0_scratch0) wS Finset.univ wS_cover wS_disjoint) $$ H0
  ihave H1 := (quarters_any (F := F) (ℓ := (c : Thread nD τ).loc cc0_scratch1) rS rS_cover rS_disjoint c) $$ H1
  icases H1 with ⟨OA, OD, OY, OZ⟩
  ihave OA := (cut_any (F := F) (ℓ := (c : Thread nD τ).loc cc0_scratch1) (tS (qA c)) (rS (qA c)) (tS_cover _) (tS_disjoint _)) $$ OA
  ihave OD := (cut_any (F := F) (ℓ := (c : Thread nD τ).loc cc0_scratch1) (tS (qD c)) (rS (qD c)) (tS_cover _) (tS_disjoint _)) $$ OD
  ihave H2 := (cut_any (F := F) (ℓ := (c : Thread nD τ).loc cc0_scratch2) wS Finset.univ wS_cover wS_disjoint) $$ H2
  ihave H3 := (quarters_any (F := F) (ℓ := (c : Thread nD τ).loc cc0_scratch3) wS wS_cover wS_disjoint c) $$ H3
  icases H3 with ⟨EA, ED, EY, EZ⟩
  ihave H5 := (quarters_any (F := F) (ℓ := (c : Thread nD τ).loc cc0_scratch5) rS rS_cover rS_disjoint c) $$ H5
  icases H5 with ⟨SA, SD, SY, SZ⟩
  ihave SA := (cut_any (F := F) (ℓ := (c : Thread nD τ).loc cc0_scratch5) (tS (qA c)) (rS (qA c)) (tS_cover _) (tS_disjoint _)) $$ SA
  ihave SD := (cut_any (F := F) (ℓ := (c : Thread nD τ).loc cc0_scratch5) (tS (qD c)) (rS (qD c)) (tS_cover _) (tS_disjoint _)) $$ SD
  isplitl [HO Hts Hp Hcr Hat T1 T2 T3 T4 T5 T6 HW H0 Zw H2 OA SA DA EA Z4 DD ED Z5 H4]
  · isplitl [HO Hts Hp Hcr Hat]
    · isplitl [HO]; · iexact HO
      isplitl [Hts]; · iexact Hts
      isplitl [Hp]; · iexact Hp
      isplitl [Hcr]; · iexact Hcr
      iexact Hat
    isplitl [T1 T2 T3 T4 T5 T6]
    · isplitl [T1 T2 T3]
      · isplitl [T1]; · iexact T1
        isplitl [T2]; · iexact T2
        iexact T3
      isplitl [T4]; · iexact T4
      isplitl [T5]; · iexact T5
      iexact T6
    isplitl [HW H0 Zw H2 OA SA]
    · isplitl [HW H0 Zw]
      · isplitl [HW]; · iexact HW
        isplitl [H0]; · iexact H0
        iexact Zw
      isplitl [H2]; · iexact H2
      isplitl [OA]; · iexact OA
      iexact SA
    isplitl [DA EA Z4]
    · isplitl [DA]; · iexact DA
      isplitl [EA]; · iexact EA
      iexact Z4
    isplitl [DD ED Z5]
    · isplitl [DD]; · iexact DD
      isplitl [ED]; · iexact ED
      iexact Z5
    iexact H4
  isplitl [DY DZ EY EZ SY SZ LA LD]
  · isplitl [DY DZ]
    · isplitl [DY]; · iexact DY
      iexact DZ
    isplitl [EY EZ]
    · isplitl [EY]; · iexact EY
      iexact EZ
    isplitl [SY SZ]
    · isplitl [SY]; · iexact SY
      iexact SZ
    isplitl [LA]; · iexact LA
    iexact LD
  isplitl [OD SD]
  · isplitl [OD]; · iexact OD
    iexact SD
  isplitl [A1]; · iexact A1
  isplitl [RA Z6]
  · isplitl [RA]; · iexact RA
    iexact Z6
  isplitl [OY OZ RD RY RZ Z7 Z8 Z9]
  · isplitl [OY OZ]
    · isplitl [OY]; · iexact OY
      iexact OZ
    isplitl [RD RY RZ]
    · isplitl [RD]; · iexact RD
      isplitl [RY]; · iexact RY
      iexact RZ
    isplitl [Z7]; · iexact Z7
    isplitl [Z8]; · iexact Z8
    iexact Z9
  isplitl [A4]; · iexact A4
  isplitl [A5]; · iexact A5
  iexact A2

/-! ## Between the stretches -/

/-- What is over after the first stretch. -/
def gone1 (c : Dev nD) : sProp 𝕄 :=
  iprop(((bigSep Finset.univ fun k : Fin 4 => lW c k (wB m c)) ∗ (bigSep Finset.univ fun k : Fin 4 => pW c k (wB m c))
      ∗ bigSep Finset.univ fun k : Fin 4 => semVal (lcell c (wi k)) 0)
    ∗ ((lDy c (qA c) (dyB m c) ∗ pDy c (qA c) (dyB m c)) ∗ semVal (lcell c 4) 0) ∗ semVal (bcell c) 0)
/-- What is over after the second. -/
def gone2 (c : Dev nD) : sProp 𝕄 :=
  iprop(((lDy c (qD c) (dyB m c) ∗ pDy c (qD c) (dyB m c)) ∗ semVal (lcell c 5) 0) ∗ (∃ f, lDb c f)
    ∗ (bigSep Finset.univ fun k : Fin 4 => lWb c k (Wb m c)) ∗ (bigSep Finset.univ fun k : Fin 4 => zero c 0 true (lo k))
    ∗ bigSep Finset.univ fun k : Fin 4 => tRecv c (qA c) k fullShare.right.right (RB m c))
/-- What is over after the third. -/
def gone3 (c : Dev nD) : sProp 𝕄 :=
  iprop((bigSep Finset.univ fun k : Fin 4 => zero c 0 true (hi k))
    ∗ (bigSep Finset.univ fun k : Fin 4 => iprop(zero c 2 true (lo k) ∗ zero c 1 true (lo k)))
    ∗ (bigSep Finset.univ fun k : Fin 4 => iprop(zero c 2 true (hi k) ∗ zero c 1 true (hi k)))
    ∗ rRecv c (qD c) (RB m c) ∗ (rLoc c (qY c) (RL m c) ∗ rRecv c (qY c) (RB m c)) ∗ (rLoc c (qZ c) (RL m c) ∗ rRecv c (qZ c) (RB m c)))

def rest2 (c : Dev nD) : sProp 𝕄 := iprop((keep m c ∗ gone1 m c) ∗ bigSep Finset.univ (sent1 c) ∗ rows c ∗ waits c)
def rest3 (c : Dev nD) : sProp 𝕄 :=
  iprop((keep m c ∗ gone1 m c ∗ gone2 m c) ∗ bigSep Finset.univ (sent1 c) ∗ bigSep Finset.univ (sent2 c)
    ∗ fly c (os 0) NR iprop(pRes c (qA c) (OUT m c) ∗ rOut c (qA c) (OUT m c)))
def rest4 (c : Dev nD) : sProp 𝕄 := iprop(keep m c ∗ gone1 m c ∗ gone2 m c ∗ gone3 m c)

theorem to_second (c : Dev nD) : iprop(post1 m c ∗ rest1 m c) ⊢ iprop(pre2 m c ∗ rest2 m c) := by
  have d1 : bigSep Finset.univ (done1 m c) = iprop(((bigSep Finset.univ fun k : Fin 4 => lW c k (wB m c)) ∗ bigSep Finset.univ fun k : Fin 4 => pW c k (wB m c))
      ∗ (bigSep Finset.univ fun k : Fin 4 => semVal (lcell c (wi k)) 0) ∗ (bigSep Finset.univ fun k : Fin 4 => lWb c k (Wb m c))
      ∗ (bigSep Finset.univ fun k : Fin 4 => tOut c (qA c) k (PA m c)) ∗ bigSep Finset.univ (sent1 c)) := by
    rw [← bigSep_sep', ← bigSep_sep', ← bigSep_sep', ← bigSep_sep', ← bigSep_sep']; rfl
  have r2 : bigSep Finset.univ (room2 m c) = iprop((bigSep Finset.univ fun k : Fin 4 => lWb c k (Wb m c)) ∗ (bigSep Finset.univ fun k : Fin 4 => iprop(∃ f, tOut c (qD c) k f))
      ∗ (bigSep Finset.univ fun k : Fin 4 => iprop(∃ f, tSend c (qD c) k fullShare f)) ∗ (bigSep Finset.univ fun k : Fin 4 => tOut c (qA c) k (PA m c))
      ∗ bigSep Finset.univ fun k : Fin 4 => await c 0 true (lo k)) := by
    rw [← bigSep_sep', ← bigSep_sep', ← bigSep_sep', ← bigSep_sep']; rfl
  unfold post1 rest1 pre2 rest2 gone1
  rw [d1, r2]
  iintro ⟨⟨⟨HO, Hzb⟩, Hr, ⟨⟨⟨HW, HpW⟩, Zw, HWb, OA, HS⟩, HA, HF, Hdb⟩⟩, ⟨Hk, ⟨OD, SD⟩, A1, ⟨RA, Z6⟩, Hrows, Hwaits⟩⟩
  isplitl [HO HF Hdb HWb OD SD OA A1 Hr RA Z6]
  · isplitl [HO]; · iexact HO
    isplitl [HF]; · iexact HF
    isplitl [Hdb]; · iexact Hdb
    isplitl [HWb OD SD OA A1]
    · isplitl [HWb]; · iexact HWb
      isplitl [OD]; · iexact OD
      isplitl [SD]; · iexact SD
      isplitl [OA]; · iexact OA
      iexact A1
    isplitl [Hr]; · iexact Hr
    isplitl [RA]; · iexact RA
    iexact Z6
  isplitl [Hk HW HpW Zw HA Hzb]
  · isplitl [Hk]; · iexact Hk
    isplitl [HW HpW Zw]
    · isplitl [HW]; · iexact HW
      isplitl [HpW]; · iexact HpW
      iexact Zw
    isplitl [HA]; · iexact HA
    iexact Hzb
  isplitl [HS]; · iexact HS
  isplitl [Hrows]; · iexact Hrows
  iexact Hwaits

theorem to_third (c : Dev nD) : iprop(post2 m c ∗ rest2 m c) ⊢ iprop(pre3 m c ∗ rest3 m c) := by
  have d2 : bigSep Finset.univ (done2 m c) = iprop((bigSep Finset.univ fun k : Fin 4 => lWb c k (Wb m c)) ∗ (bigSep Finset.univ fun k : Fin 4 => tOut c (qD c) k (PA m c))
      ∗ bigSep Finset.univ (sent2 c) ∗ (bigSep Finset.univ fun k : Fin 4 => zero c 0 true (lo k))
      ∗ bigSep Finset.univ fun k : Fin 4 => tRecv c (qA c) k fullShare.right.right (RB m c)) := by
    rw [← bigSep_sep', ← bigSep_sep', ← bigSep_sep', ← bigSep_sep']; rfl
  unfold post2 rest2 pre3 rest3 gone2 rows waits
  rw [d2, out_tiles c (qD c) (PA m c), bigSep_sep', bigSep_sep']
  iintro ⟨⟨HO, HD, Hdb, ⟨HWb, OD, HS2, Z1, HT⟩, HF⟩, ⟨⟨Hk, Hg⟩, HS, ⟨⟨OY, OZ⟩, ⟨RD, RY, RZ⟩, ⟨Z7, Z8, Z9⟩⟩, ⟨A4, ⟨A5, A6⟩, ⟨A2, A3⟩⟩⟩⟩
  isplitl [HO A4 A5 A6 A2 A3 OD RD Z7 OY RY Z8 OZ RZ Z9]
  · isplitl [HO]; · iexact HO
    isplitl [A4]; · iexact A4
    isplitl [A2 A5]
    · isplitl [A2]; · iexact A2
      iexact A5
    isplitl [A3 A6]
    · isplitl [A3]; · iexact A3
      iexact A6
    isplitl [OD RD Z7]
    · isplitl [OD]; · iexact OD
      isplitl [RD]; · iexact RD
      iexact Z7
    isplitl [OY RY Z8]
    · isplitl [OY]; · iexact OY
      isplitl [RY]; · iexact RY
      iexact Z8
    isplitl [OZ]; · iexact OZ
    isplitl [RZ]; · iexact RZ
    iexact Z9
  isplitl [Hk Hg HD Hdb HWb Z1 HT]
  · isplitl [Hk]; · iexact Hk
    isplitl [Hg]; · iexact Hg
    isplitl [HD]; · iexact HD
    isplitl [Hdb]; · iexact Hdb
    isplitl [HWb]; · iexact HWb
    isplitl [Z1]; · iexact Z1
    iexact HT
  isplitl [HS]; · iexact HS
  isplitl [HS2]; · iexact HS2
  iexact HF

theorem to_fourth (c : Dev nD) : iprop(post3 m c ∗ rest3 m c) ⊢ iprop(pre4 m c ∗ rest4 m c) := by
  have s1 : bigSep Finset.univ (sent1 (F := F) c) = iprop((bigSep Finset.univ fun k : Fin 4 => await c 0 false (lo k)) ∗ (bigSep Finset.univ fun k : Fin 4 => await c 2 false (lo k))
      ∗ bigSep Finset.univ fun k : Fin 4 => await c 2 false (hi k)) := by
    rw [← bigSep_sep', ← bigSep_sep']; rfl
  have s2 : bigSep Finset.univ (sent2 (F := F) c) = iprop((bigSep Finset.univ fun k : Fin 4 => await c 0 false (hi k)) ∗ (bigSep Finset.univ fun k : Fin 4 => await c 1 false (lo k))
      ∗ bigSep Finset.univ fun k : Fin 4 => await c 1 false (hi k)) := by
    rw [← bigSep_sep', ← bigSep_sep']; rfl
  unfold post3 rest3 pre4 rest4 gone3
  rw [s1, s2, four (fun j : Fin 4 => fly c (os j) NR _), bigSep_sep' Finset.univ (fun k : Fin 4 => await c 1 false (lo k)), bigSep_sep' Finset.univ (fun k : Fin 4 => await c 1 false (hi k))]
  iintro ⟨⟨HO, Z0, Z1, Z2, HD, HY, HZ, F1, F2, F3⟩, ⟨⟨Hk, Hg1, Hg2⟩, ⟨B1, B2, B3⟩, ⟨B4, B5, B6⟩, F0⟩⟩
  isplitl [HO B1 B2 B3 B4 B5 B6 F0 F1 F2 F3]
  · isplitl [HO]; · iexact HO
    isplitl [B1]; · iexact B1
    isplitl [B4]; · iexact B4
    isplitl [B5 B2]
    · isplitl [B5]; · iexact B5
      iexact B2
    isplitl [B6 B3]
    · isplitl [B6]; · iexact B6
      iexact B3
    isplitl [F0]; · iexact F0
    isplitl [F1]; · iexact F1
    isplitl [F2]; · iexact F2
    iexact F3
  isplitl [Hk]; · iexact Hk
  isplitl [Hg1]; · iexact Hg1
  isplitl [Hg2]; · iexact Hg2
  isplitl [Z0]; · iexact Z0
  isplitl [Z1]; · iexact Z1
  isplitl [Z2]; · iexact Z2
  isplitl [HD]; · iexact HD
  isplitl [HY]; · iexact HY
  iexact HZ

/-! ## The end -/

/-- The buffer of what was sent, whole again. -/
theorem send_back (c : Dev nD) :
    (iprop((bigSep Finset.univ fun k : Fin 4 => iprop(lent m c 0 (lo k) ∗ lent m c 2 (lo k) ∗ lent m c 2 (hi k))) ∗ (bigSep Finset.univ fun k : Fin 4 => lent m c 0 (hi k))
      ∗ (∃ f, rSend c (qY c) f) ∗ (∃ f, rSend c (qZ c) f)) : sProp 𝕄) ⊢ any c cc0_scratch5 := by
  rw [bigSep_congr (fun k _ => (three_send m c k).symm), bigSep_congr (fun k _ => lent_x_hi m c k),
    ← cut (F := F) (ℓ := (c : Thread nD τ).loc cc0_scratch5) (tS (qA c)) (rS (qA c)) (tS_cover _) (tS_disjoint _),
    ← cut (F := F) (ℓ := (c : Thread nD τ).loc cc0_scratch5) (tS (qD c)) (rS (qD c)) (tS_cover _) (tS_disjoint _)]
  iintro ⟨HA, HD, HY, HZ⟩
  iapply (quarters_back (F := F) (ℓ := (c : Thread nD τ).loc cc0_scratch5) rS rS_cover rS_disjoint c (SB m c))
  isplitl [HA]; · iexists _; iexact HA
  isplitl [HD]; · iexists _; iexact HD
  isplitl [HY]; · iexact HY
  iexact HZ

/-- The buffer of what came across x or was passed on, whole again. -/
theorem recv_back (c : Dev nD) :
    (iprop((bigSep Finset.univ fun k : Fin 4 => iprop(lent m c 1 (lo k) ∗ lent m c 1 (hi k) ∗ tRecv c (qA c) k fullShare.right.right (RB m c)))
      ∗ rRecv c (qD c) (RB m c) ∗ rRecv c (qY c) (RB m c) ∗ rRecv c (qZ c) (RB m c)) : sProp 𝕄) ⊢ any c cc0_scratch6 := by
  rw [bigSep_congr (fun k _ => (three_recv m c k).symm), ← recv_tiles, ← quarters (F := F) (ℓ := (c : Thread nD τ).loc cc0_scratch6) rS rS_cover rS_disjoint c]
  iintro H
  iexists _; iexact H

/-- What a device ends with, put together. -/
theorem close_end (c : Dev nD) : iprop(post4 m c ∗ rest4 m c) ⊢ final m c := by
  unfold post4 rest4 final keep gone1 gone2 gone3 scratch
  rw [sides, families, families, ten, bigSep_sep' Finset.univ (fun j : Fin 4 => iprop(pRes c (quart c j) (OUT m c) ∗ rOut c (quart c j) (OUT m c))),
    bigSep_sep' Finset.univ (fun j : Fin 4 => pRes c (quart c j) (OUT m c)),
    four (fun j : Fin 4 => pRes c (quart c j) (OUT m c)), four (fun j : Fin 4 => rOut c (quart c j) (OUT m c)),
    quarters (F := F) (ℓ := (c : Thread nD τ).loc main_arg0) wS wS_cover wS_disjoint c, cut (F := F) (ℓ := (c : Thread nD τ).loc main_arg1) wS _ wS_cover wS_disjoint,
    quarters (F := F) (ℓ := (c : Thread nD τ).loc main_v1) rS rS_cover rS_disjoint c]
  simp only [bigSep_sep']
  iintro ⟨⟨HO, ⟨L1, B1⟩, ⟨L4, B4⟩, ⟨⟨L5, L2⟩, ⟨B5, B2⟩⟩, ⟨⟨L6, L3⟩, ⟨B6, B3⟩⟩, ⟨⟨⟨RA, RD, RY, RZ⟩, ⟨OA, OD, OY, OZ⟩⟩, Zo⟩⟩,
    ⟨⟨⟨DY, DZ⟩, ⟨EY, EZ⟩, ⟨SY, SZ⟩, ⟨LA, LD⟩⟩, ⟨⟨HW, HpW, Zw⟩, ⟨⟨EA, DA⟩, Z4⟩, Zb⟩, ⟨⟨⟨ED, DD⟩, Z5⟩, Hdb, HWb, C1, HT⟩,
    ⟨C4, ⟨C2, C5⟩, ⟨C3, C6⟩, TD, ⟨LY, TY⟩, ⟨LZ, TZ⟩⟩⟩⟩
  isplitl [HO]; · iexact HO
  isplitl [DA DD DY DZ HpW RA RD RY RZ]
  · isplitl [DA DD DY DZ]
    · isplitl [DA]; · iexact DA
      isplitl [DD]; · iexact DD
      isplitl [DY]; · iexact DY
      iexact DZ
    isplitl [HpW]; · iexact HpW
    isplitl [RA]; · iexact RA
    isplitl [RD]; · iexact RD
    isplitl [RY]; · iexact RY
    iexact RZ
  isplitl [HW OA OD OY OZ HWb EA ED EY EZ Hdb L1 L2 L3 L4 SY SZ L5 L6 HT TD TY TZ LA LD LY LZ]
  · isplitl [HW]
    · iexists _
      iapply (Entails.of_eq (cut (F := F) (ℓ := (c : Thread nD τ).loc cc0_scratch0) wS _ wS_cover wS_disjoint (wB m c)).symm); iexact HW
    isplitl [OA OD OY OZ]
    · iexists _
      iapply (Entails.of_eq (quarters (F := F) (ℓ := (c : Thread nD τ).loc cc0_scratch1) rS rS_cover rS_disjoint c (OUT m c)).symm)
      isplitl [OA]; · iexact OA
      isplitl [OD]; · iexact OD
      isplitl [OY]; · iexact OY
      iexact OZ
    isplitl [HWb]
    · iexists _
      iapply (Entails.of_eq (cut (F := F) (ℓ := (c : Thread nD τ).loc cc0_scratch2) wS _ wS_cover wS_disjoint (Wb m c)).symm); iexact HWb
    isplitl [EA ED EY EZ]
    · iapply (quarters_back (F := F) (ℓ := (c : Thread nD τ).loc cc0_scratch3) wS wS_cover wS_disjoint c (dyB m c))
      isplitl [EA]; · iexists _; iexact EA
      isplitl [ED]; · iexists _; iexact ED
      isplitl [EY]; · iexact EY
      iexact EZ
    isplitl [Hdb]; · iexact Hdb
    isplitl [L1 L2 L3 L4 SY SZ]
    · iapply (send_back m c)
      simp only [bigSep_sep']
      isplitl [L1 L2 L3]
      · isplitl [L1]; · iexact L1
        isplitl [L2]; · iexact L2
        iexact L3
      isplitl [L4]; · iexact L4
      isplitl [SY]; · iexact SY
      iexact SZ
    isplitl [L5 L6 HT TD TY TZ]
    · iapply (recv_back m c)
      simp only [bigSep_sep']
      isplitl [L5 L6 HT]
      · isplitl [L5]; · iexact L5
        isplitl [L6]; · iexact L6
        iexact HT
      isplitl [TD]; · iexact TD
      isplitl [TY]; · iexact TY
      iexact TZ
    iapply (quarters_back (F := F) (ℓ := (c : Thread nD τ).loc cc0_scratch7) rS rS_cover rS_disjoint c (RL m c))
    isplitl [LA]; · iexact LA
    isplitl [LD]; · iexact LD
    isplitl [LY]; · iexists _; iexact LY
    iexists _; iexact LZ
  isplitl [Zw Z4 Z5 Zo]
  · isplitl [Zw]; · iexact Zw
    isplitl [Z4 Z5]
    · isplitl [Z4]; · iexact Z4
      iexact Z5
    iexact Zo
  isplitr [Zb]
  · isplitl [C1 C2 C3 C4 C5 C6]
    · isplitl [C1 C4]
      · isplitl [C1]; · iexact C1
        iexact C4
      isplitl [C5 C6]
      · isplitl [C5]; · iexact C5
        iexact C6
      isplitl [C2]; · iexact C2
      iexact C3
    isplitl [B1 B4]
    · isplitl [B1]; · iexact B1
      iexact B4
    isplitl [B5 B6]
    · isplitl [B5]; · iexact B5
      iexact B6
    isplitl [B2]; · iexact B2
    iexact B3
  iexact Zb

/-! ## The body -/

/-- The body takes a device from its start to its end. -/
theorem body_run (c : Dev nD) : iprop(records m K ∗ initial m c) ⊢ WP c shaped (fun _ => final m c) := by
  unfold WP shaped
  simp only [Prog.lift, Prog.bind_op, Prog.bind_ret, wp_deviceId, wp_bind]
  iintro ⟨#HR, H⟩
  ihave H := (open_start m c) $$ H
  icases H with ⟨H, Hrest⟩
  iapply (first_half m K c _) $$ [H]
  · isplitr; · iexact HR
    iexact H
  iintro H
  ihave H := (to_second m c) $$ [H Hrest]
  · isplitl [H]; · iexact H
    iexact Hrest
  icases H with ⟨H, Hrest⟩
  iapply (second_half m K c _) $$ [H]
  · isplitr; · iexact HR
    iexact H
  iintro H
  ihave H := (to_third m c) $$ [H Hrest]
  · isplitl [H]; · iexact H
    iexact Hrest
  icases H with ⟨H, Hrest⟩
  iapply (collect_spec m K c _) $$ [H]
  · isplitr; · iexact HR
    iexact H
  iintro H
  ihave H := (to_fourth m c) $$ [H Hrest]
  · isplitl [H]; · iexact H
    iexact Hrest
  icases H with ⟨H, Hrest⟩
  iapply (finish_spec m K c _) $$ [H]
  · isplitr; · iexact HR
    iexact H
  iintro H
  iapply (close_end m c)
  isplitl [H]; · iexact H
  iexact Hrest

end Cert.KernelIdeal
-- ==== Proof.Deal.lean ====
module

public import proofs.«01_k».proof.Proof.Body
public import proofs.«01_k».proof.Proof.Gen.KernelIdeal.Launch
public import Idealize.ShloMosaic.Lib.Pipeline.Launch
public import Idealize.ShloMosaic.Lib.Tactic

/-! What the launch mints, dealt out: each device gets the right to pay the cells it pays, and the credit of the
cells it waits on. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

theorem ssem_injective : Function.Injective ssem := by
  rintro (_ | ⟨κ, r, n⟩) (_ | ⟨κ', r', n'⟩) h
  · rfl
  · cases h
  · cases h
  · have h1 : slot (tsem κ r n) = slot (tsem κ' r' n') := congrArg (fun x : SemLoc sig => match x with | .dma s => slot s | .reg _ => none) h
    rwa [slot_tsem, slot_tsem] at h1

theorem kcell_injective : Function.Injective kcell := by
  rintro ⟨c, s⟩ ⟨c', s'⟩ h
  have h1 : c = c' := congrArg (fun g : GSem nD τ sig => g.1.1) h
  have h2 : s = s' := ssem_injective (congrArg Prod.snd h)
  rw [h1, h2]

/-- The duties of a device's cells: three at the barrier, one at every transfer's cell. -/
abbrev Duty : Type := Fin 3 ⊕ Fin 3 × Bool × Fin 8
def tokOf (x : Dev nD × Duty) : GSem nD τ sig × ℕ × Fin 3 := match x.2 with
  | .inl d => (bcell x.1, 0, d)
  | .inr y => (tcell x.1 y.1 y.2.1 y.2.2, 0, 0)
theorem tokOf_injective : Function.Injective tokOf := by
  rintro ⟨c, d | y⟩ ⟨c', d' | y'⟩ h
  · have h1 : c = c' := congrArg (fun x : GSem nD τ sig × ℕ × Fin 3 => x.1.1.1) h
    have h2 : d = d' := congrArg (fun x : GSem nD τ sig × ℕ × Fin 3 => x.2.2) h
    rw [h1, h2]
  · exact absurd (congrArg (fun x : GSem nD τ sig × ℕ × Fin 3 => x.1.2) h) (fun h => by cases h)
  · exact absurd (congrArg (fun x : GSem nD τ sig × ℕ × Fin 3 => x.1.2) h) (fun h => by cases h)
  · have h1 : (c, some y) = (c', some y') := kcell_injective (congrArg Prod.fst h)
    cases h1; rfl

def allCells : Finset (GSem nD τ sig) := Finset.univ.map ⟨kcell, kcell_injective⟩
def allToks : Finset (GSem nD τ sig × ℕ × Fin 3) := Finset.univ.map ⟨tokOf, tokOf_injective⟩

/-- The duty tokens of a device's own cells. -/
def minted (c : Dev nD) : sProp 𝕄 :=
  iprop((bigSep Finset.univ fun d : Fin 3 => dutyTok ER (bcell c) 0 d)
    ∗ (bigSep Finset.univ fun x : Fin 3 × Fin 8 => dutyTok ER (tcell c x.1 true x.2) 0 0)
    ∗ bigSep Finset.univ fun x : Fin 3 × Fin 8 => dutyTok ER (tcell c x.1 false x.2) 0 0)
/-- The duty tokens of the payments a device makes. -/
def dealt (c : Dev nD) : sProp 𝕄 :=
  iprop((bigSep Finset.univ fun d : Fin 3 => dutyTok ER (bcell (along c d)) 0 d)
    ∗ (bigSep Finset.univ fun x : Fin 3 × Fin 8 => dutyTok ER (tcell (peer c x.1 x.2) x.1 true x.2) 0 0)
    ∗ bigSep Finset.univ fun x : Fin 3 × Fin 8 => dutyTok ER (tcell c x.1 false x.2) 0 0)

/-- Over all devices, the same thing with each device renamed by an involution. -/
theorem swapped {I : Type} [Fintype I] (e : Dev nD → I → Dev nD) (he : ∀ c i, e (e c i) i = c) (Φ : Dev nD → I → sProp 𝕄) :
    (bigSep Finset.univ fun c : Dev nD => bigSep Finset.univ fun i : I => Φ c i)
      = bigSep Finset.univ fun c : Dev nD => bigSep Finset.univ fun i : I => Φ (e c i) i := by
  rw [bigSep_univ_comm, bigSep_univ_comm (fun c i => Φ (e c i) i)]
  exact bigSep_congr fun i _ => deal (fun c => e c i) (Function.Involutive.bijective fun c => he c i) (fun c => Φ c i)

theorem minted_dealt : (bigSep Finset.univ fun c : Dev nD => (minted c : sProp 𝕄)) = bigSep Finset.univ fun c : Dev nD => dealt c := by
  unfold minted dealt
  rw [bigSep_sep', bigSep_sep', bigSep_sep', bigSep_sep',
    swapped along along_along (fun c d => (dutyTok ER (bcell c) 0 d : sProp 𝕄)),
    swapped (fun c (x : Fin 3 × Fin 8) => peer c x.1 x.2) (fun c x => peer_peer c x.1 x.2) (fun c x => (dutyTok ER (tcell c x.1 true x.2) 0 0 : sProp 𝕄))]

/-- A device's cells: the barrier's, those where tiles land, those where they leave. -/
theorem slots (Φ : Slot → sProp 𝕄) : bigSep Finset.univ Φ
    = iprop(Φ none ∗ (bigSep Finset.univ fun x : Fin 3 × Fin 8 => Φ (some (x.1, true, x.2))) ∗ bigSep Finset.univ fun x : Fin 3 × Fin 8 => Φ (some (x.1, false, x.2))) := by
  rw [deal (Sum.elim (fun _ : Unit => none) some) (by decide +kernel) Φ, bigSep_univ_sum, sides, bigSep_univ_of_subsingleton ()]; rfl

/-- What the launch element deals a device. -/
def G (c : Dev nD) : sProp 𝕄 :=
  iprop((bigSep Finset.univ fun s : Slot => roundState ER (sched m) (kcell (c, s)) 0)
    ∗ (bigSep Finset.univ fun s : Slot => atPos ER (kcell (c, s)) 0 ∅ 0) ∗ (bigSep Finset.univ fun s : Slot => reached ER (kcell (c, s)) 0) ∗ minted c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : Slot => Φ (kcell (c, s)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum, sides]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## The credit -/

/-- The cell a debt is owed to, seen from there: which slot, and who owes. -/
def dslot : Due → Slot
  | .bar _ => none
  | .tr κ n => some (κ, true, n)
def debtor (c : Dev nD) : Due → Dev nD
  | .bar d => along c d
  | .tr κ n => peer c κ n
theorem debtor_debtor (c : Dev nD) (x : Due) : debtor (debtor c x) x = c := by
  cases x with
  | bar d => exact along_along c d
  | tr κ n => exact peer_peer c κ n
theorem dcell_eq (c : Dev nD) (x : Due) : dcell c x = kcell (debtor c x, dslot x) := by cases x <;> rfl
/-- What a slot is paid by each of its payers. -/
def samt : Slot → ℕ
  | none => 1
  | some _ => N
theorem damt_eq (x : Due) : damt x = samt (dslot x) := by cases x <;> rfl

/-- All devices together owe a cell its slot's amount as often as the slot occurs among the debts. -/
theorem owed_sum (c : Dev nD) (s : Slot) : ∀ l : List Due, (∑ d : Dev nD, debt d l (kcell (c, s)) ()) = (l.map dslot).count s * samt s
  | [] => by rw [List.map_nil, List.count_nil, Nat.zero_mul]; exact Finset.sum_eq_zero fun d _ => rfl
  | x :: l => by
    have h1 : ∀ d : Dev nD, debt d (x :: l) (kcell (c, s)) () = debt d l (kcell (c, s)) () + if d = debtor c x then (if dslot x = s then samt s else 0) else 0 := by
      intro d
      rw [show debt d (x :: l) = debt d l + tallyAt (dcell d x) () (damt x) from rfl, Pi.add_apply, Finsupp.add_apply, tallyAt_apply, dcell_eq, damt_eq]
      congr 1
      by_cases hd : d = debtor c x
      · subst hd
        rw [if_pos rfl, debtor_debtor]
        by_cases hs : dslot x = s
        · subst hs; rw [if_pos ⟨rfl, rfl⟩, if_pos rfl]
        · rw [if_neg (fun h => hs (congrArg Prod.snd (kcell_injective h.1)).symm), if_neg hs]
      · rw [if_neg hd, if_neg (fun h => hd (by
        have h3 : c = debtor d x := congrArg Prod.fst (kcell_injective h.1)
        rw [h3, debtor_debtor]))]
    rw [Finset.sum_congr rfl fun d _ => h1 d, Finset.sum_add_distrib, owed_sum c s l, Finset.sum_ite_eq' Finset.univ (debtor c x),
      if_pos (Finset.mem_univ _), List.map_cons, List.count_cons]
    by_cases hs : dslot x = s
    · simp only [hs, beq_self_eq_true, if_true]; rw [Nat.add_mul, Nat.one_mul]
    · have : (dslot x == s) = false := by rw [beq_eq_false_iff_ne]; exact hs
      simp only [this, hs, if_false]; rfl

/-- What a device owes at the launch. -/
def O₀ (c : Dev nD) : CellTallies nD τ sig Unit := debt c dues

theorem launch_at (c : Dev nD) (s : Slot) : tallyOn (kcell (c, s)) (launchCredit (Pipeline.owing O₀) 0 (kcell (c, s)))
    = (tallyAt (kcell (c, s)) () ((dues.map dslot).count s * samt s) : CellTallies nD τ sig Unit) := by
  unfold tallyAt; refine congrArg _ (Finsupp.ext fun u => ?_); cases u
  rw [Pipeline.launchCredit_owing, Finsupp.single_eq_same]
  exact owed_sum c s dues

theorem count_bar : (dues.map dslot).count none = 3 := by decide
theorem count_tr : ∀ x : Fin 3 × Fin 8, (dues.map dslot).count (some (x.1, true, x.2)) = 1 := by decide

theorem creds (c : Dev nD) : (Pipeline.launchCred O₀ c : sProp 𝕄)
    ⊢ iprop(cred (tallyAt (bcell c) () 3) ∗ bigSep Finset.univ fun x : Fin 3 × Fin 8 => cred (tallyAt (tcell c x.1 true x.2) () N)) := by
  have hB : (cred (tallyOn (kcell (c, none)) (launchCredit (Pipeline.owing O₀) 0 (kcell (c, none)))) : sProp 𝕄) = cred (tallyAt (bcell c) () 3) := by
    rw [launch_at, count_bar]; rfl
  have hT : (bigSep Finset.univ fun x : Fin 3 × Fin 8 => (cred (tallyOn (kcell (c, some (x.1, true, x.2)))
      (launchCredit (Pipeline.owing O₀) 0 (kcell (c, some (x.1, true, x.2))))) : sProp 𝕄))
      = bigSep Finset.univ fun x : Fin 3 × Fin 8 => cred (tallyAt (tcell c x.1 true x.2) () N) :=
    bigSep_congr fun x _ => by rw [launch_at, count_tr, Nat.one_mul]; rfl
  have hS : (Pipeline.launchCred O₀ c : sProp 𝕄) ⊢ bigSep Finset.univ fun s : Slot => cred (tallyOn (kcell (c, s)) (launchCredit (Pipeline.owing O₀) 0 (kcell (c, s)))) := by
    unfold Pipeline.launchCred
    refine (bigSep_subset (Finset.subset_univ (Finset.univ.map ⟨ssem, ssem_injective⟩))).trans ?_
    rw [bigSep_map]; exact fun _ h => h
  iintro H
  ihave H := hS $$ H
  ihave H := (Entails.of_eq (slots fun s : Slot => (cred (tallyOn (kcell (c, s)) (launchCredit (Pipeline.owing O₀) 0 (kcell (c, s)))) : sProp 𝕄))) $$ H
  icases H with ⟨HB, HT, -⟩
  isplitl [HB]
  · iapply (Entails.of_eq hB); iexact HB
  · iapply (Entails.of_eq hT); iexact HT

end Cert.KernelIdeal
-- ==== Proof.Launch.lean ====
module

public import proofs.«01_k».proof.Proof.Deal
public import proofs.«01_k».proof.Proof.Gen.KernelIdeal.Points
public import Idealize.ShloMosaic.Lib.Pipeline.CollectiveSegs

/-! The launch: the run of the whole mesh, for any float values. -/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The semaphores the kernel names itself. -/
def osem : Fin 58 → SemLoc sig := fun i => .dma i
theorem ownSemFacts : Pipeline.OwnSemFacts cfg0.spec osem := by decide +kernel

/-- They are those of the copies inside a device and those of the transfers. -/
theorem ownSems_eq (c : Dev nD) : (Pipeline.ownSems0 (Ix := Unit) (Name := ℕ) (U := UU) (Lvl := ℕ) (Val := Elt F) (τ := τ) osem c : sProp 𝕄)
    = iprop((bigSep Finset.univ fun i : Fin 10 => semVal (lcell c i) 0) ∗ bigSep Finset.univ fun x : Fin 3 × Bool × Fin 8 => zero c x.1 x.2.1 x.2.2) := by
  unfold Pipeline.ownSems0
  rw [deal (Sum.elim lsem fun x : Fin 3 × Bool × Fin 8 => tsem x.1 x.2.1 x.2.2) (by decide +kernel), bigSep_univ_sum]
  rfl
theorem unscopedSems_eq (c : Dev nD) : (unscopedSems0 c : sProp 𝕄) = semVal (bcell c) 0 := by
  unfold unscopedSems0; rw [bigSep_eq_bigSepL_of_eq [SemLoc.reg barS] (by decide) (by decide)]; rfl

/-- A device's cells, all at zero. -/
theorem cells_zero (c : Dev nD) : (bigSep Finset.univ fun s : Slot => semVal (kcell (c, s)) 0 : sProp 𝕄)
    = iprop(semVal (bcell c) 0 ∗ bigSep Finset.univ fun x : Fin 3 × Bool × Fin 8 => zero c x.1 x.2.1 x.2.2) := by
  rw [slots, sides]

/-! ## From the launch to the bodies -/

/-- Every cell's invariant, and that its round has begun. -/
def facts (K : Dev nD × Slot → ℕ) : sProp 𝕄 :=
  iprop((bigSep Finset.univ fun x : Dev nD × Slot => cellInv ER (sched m) (K x) (kcell x))
    ∗ (bigSep Finset.univ fun x : Dev nD × Slot => reached ER (kcell x) 0))
instance facts_persistent (K : Dev nD × Slot → ℕ) : BI.Persistent (facts m K) := by unfold facts; infer_instance

/-- What is a device's own of the exchange. -/
def share (c : Dev nD) : sProp 𝕄 :=
  iprop((bigSep Finset.univ fun s : Slot => atPos ER (kcell (c, s)) 0 ∅ 0) ∗ (bigSep Finset.univ fun i : Fin 10 => semVal (lcell c i) 0) ∗ dealt c)
def G' (c : Dev nD) : sProp 𝕄 := iprop(∃ K, facts m K ∗ share c)

theorem alloc_cells (c : Dev nD) : iprop((bigSep Finset.univ fun s : Slot => semVal (kcell (c, s)) 0) ∗ bigSep Finset.univ fun s : Slot => roundState ER (sched m) (kcell (c, s)) 0)
    ⊢ (|={Set.univ}=> bigSep Finset.univ fun s : Slot => iprop(∃ κ : ℕ, cellInv ER (sched m) κ (kcell (c, s))) : sProp 𝕄) := by
  rw [← bigSep_sep']
  exact (bigSep_mono fun s _ => (Rounds.body_intro ER (sched m) (kcell (c, s))).trans inv_alloc).trans (bigSep_fupd _ _)

theorem alloc_core (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : Slot => iprop(∃ κ : ℕ, cellInv ER (sched m) κ (kcell (c, s))))
          ∗ (bigSep Finset.univ fun s : Slot => reached ER (kcell (c, s)) 0)
          ∗ (bigSep Finset.univ fun s : Slot => atPos ER (kcell (c, s)) 0 ∅ 0) ∗ (bigSep Finset.univ fun i : Fin 10 => semVal (lcell c i) 0) ∗ minted c) := by
  unfold G
  rw [ownSems_eq, unscopedSems_eq]
  iintro ⟨⟨Hl, Ht⟩, Hb, Hst, Hat, Hr, Htok⟩
  imod (alloc_cells m c) $$ [Hb Ht Hst] with Hinv
  · isplitl [Hb Ht]
    · iapply (Entails.of_eq (cells_zero (F := F) c).symm)
      isplitl [Hb]; · iexact Hb
      iexact Ht
    iexact Hst
  imodintro
  isplitl [Hinv]; · iexact Hinv
  isplitl [Hr]; · iexact Hr
  isplitl [Hat]; · iexact Hat
  isplitl [Hl]; · iexact Hl
  iexact Htok

/-- A fact that holds for good reaches every summand. -/
theorem everywhere {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun s : Slot => iprop(∃ κ : ℕ, cellInv ER (sched m) κ (kcell (c, s))))
          ∗ (bigSep Finset.univ fun s : Slot => reached ER (kcell (c, s)) 0)
          ∗ (bigSep Finset.univ fun s : Slot => atPos ER (kcell (c, s)) 0 ∅ 0) ∗ (bigSep Finset.univ fun i : Fin 10 => semVal (lcell c i) 0) ∗ minted c) : sProp 𝕄)
      ⊢ bigSep Finset.univ (G' m) := by
  rw [bigSep_sep', bigSep_sep', bigSep_sep', bigSep_sep', minted_dealt,
    ← bigSep_univ_prod (fun x : Dev nD × Slot => iprop(∃ κ : ℕ, cellInv ER (sched m) κ (kcell x))),
    ← bigSep_univ_prod (fun x : Dev nD × Slot => (reached ER (kcell x) 0 : sProp 𝕄)),
    ← bigSep_sep', ← bigSep_sep']
  iintro ⟨HI, #HR, Hrest⟩
  ihave HK := (BI.bigSep_exists_pi Finset.univ (fun (x : Dev nD × Slot) (κ : ℕ) => (cellInv ER (sched m) κ (kcell x) : sProp 𝕄))) $$ HI
  icases HK with ⟨%K, #HI⟩
  iapply (everywhere (R := facts m K) (Φ := share) fun c => show iprop(facts m K ∗ share c) ⊢ G' m c from by
    unfold G'; iintro ⟨H1, H2⟩; iexists K; isplitl [H1]; · iexact H1
    iexact H2)
  isplitr
  · unfold facts; isplitl; · iexact HI
    iexact HR
  unfold share; iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_core m c).trans (bigSep_fupd _ _)).trans (BI.fupd_mono (regroup m))

/-- The share, with the credit, is what the body links up with. -/
theorem link_intro (c : Dev nD) : iprop((bigSep Finset.univ fun s : Slot => atPos ER (kcell (c, s)) 0 ∅ 0) ∗ dealt c
      ∗ cred (tallyAt (bcell c) () 3) ∗ bigSep Finset.univ fun x : Fin 3 × Fin 8 => cred (tallyAt (tcell c x.1 true x.2) () N)) ⊢ (link c : sProp 𝕄) := by
  unfold dealt link tok await
  simp only [bigSep_sep']
  rw [slots, bigSep_univ_eq_bigSepL [0, 1, 2] (by decide) (by decide) (fun d : Fin 3 => (dutyTok ER (bcell (along c d)) 0 d : sProp 𝕄)),
    bigSepL_cons_cons, bigSepL_cons_cons, bigSepL_singleton]
  iintro ⟨⟨Hb, Hr, Hs⟩, ⟨H3, Hrt, Hst⟩, Hc, Hcs⟩
  isplitl [H3]; · iexact H3
  isplitl [Hb Hc]
  · isplitl [Hc]; · iexact Hc
    iexact Hb
  isplitl [Hst Hrt Hs]
  · isplitl [Hst]; · iexact Hst
    isplitl [Hrt]; · iexact Hrt
    iexact Hs
  isplitl [Hcs]; · iexact Hcs
  iexact Hr

/-! ## The proof data -/

/-- A device's arrays at the start, and at the end. -/
def arrays0 (c : Dev nD) : sProp 𝕄 :=
  iprop((((c : Thread nD τ).loc main_arg0) ↦{fullShare} dyB m c) ∗ (((c : Thread nD τ).loc main_arg1) ↦{fullShare} wB m c) ∗ any c main_v1)
def arrays1 (c : Dev nD) : sProp 𝕄 :=
  iprop((((c : Thread nD τ).loc main_arg0) ↦{fullShare} dyB m c) ∗ (((c : Thread nD τ).loc main_arg1) ↦{fullShare} wB m c) ∗ (((c : Thread nD τ).loc main_v1) ↦{fullShare} OUT m c))

/-- What a device has when its kernel starts, beside the kernel's own buffers; -/
def start (c : Dev nD) : sProp 𝕄 :=
  iprop(∃ K, records m K ∗ link c ∗ arrays0 m c ∗ bigSep Finset.univ fun i : Fin 10 => semVal (lcell c i) 0)
/-- and when it ends. -/
def stop (c : Dev nD) : sProp 𝕄 :=
  iprop(arrays1 m c ∗ scratch c ∗ (bigSep Finset.univ fun i : Fin 10 => semVal (lcell c i) 0)
    ∗ (bigSep Finset.univ fun x : Fin 3 × Bool × Fin 8 => zero c x.1 x.2.1 x.2.2) ∗ semVal (bcell c) 0)

def dats (_ : Fin 1) (c : Dev nD) : Dat τ (Elt F) Unit ℕ UU ℕ cfg0 c where
  A w := w.elim0
  after w := w.elim0
  Φ t := match t with | ⟨0, _⟩ => iprop(start m c ∗ scratch c) | ⟨_ + 1, _⟩ => stop m c
  q w := w.elim0
  owed t := match t with | ⟨0, _⟩ => debt c dues | ⟨_ + 1, _⟩ => 0

theorem no_windows (Φ : Fin 0 → sProp 𝕄) : bigSep Finset.univ Φ = (BI.emp : sProp 𝕄) := bigSep_univ_eq_bigSepL [] (by decide) (by decide) Φ

theorem owes_in (c : Dev nD) : ((dats m 0 c).owesAt () Gen.t0_0.castSucc : sProp 𝕄) ⊢ ow c dues := by
  unfold Dat.owesAt Pipeline.owesWithin ow
  rw [show (dats m 0 c).owed Gen.t0_0.castSucc = debt c dues from rfl]
  iintro ⟨%W, -, HO⟩; iexists W; iexact HO
theorem owes_out (c : Dev nD) : (ow c [] : sProp 𝕄) ⊢ (dats m 0 c).owesAt () Gen.t0_0.succ := by
  unfold Dat.owesAt Pipeline.owesWithin ow
  rw [show (dats m 0 c).owed Gen.t0_0.succ = 0 from rfl]
  iintro ⟨%W, HO⟩; iexists W; isplitr; · ipureintro; exact fun _ _ => Or.inl trivial
  iexact HO

theorem initial_intro (c : Dev nD) : iprop((start m c ∗ scratch c) ∗ ow c dues) ⊢ iprop(∃ K, records m K ∗ initial m c) := by
  unfold start initial arrays0
  iintro ⟨⟨⟨%K, HR, HL, HA, Hl⟩, Hs⟩, HO⟩
  iexists K
  isplitl [HR]; · iexact HR
  isplitl [HO]; · iexact HO
  isplitl [HL]; · iexact HL
  isplitl [HA]; · iexact HA
  isplitl [Hs]; · iexact Hs
  iexact Hl
theorem final_elim (c : Dev nD) : final m c ⊢ iprop(stop m c ∗ ow c []) := by
  unfold final stop arrays1
  iintro ⟨HO, H⟩
  isplitl [H]; · iexact H
  iexact HO

set_option maxRecDepth 65536 in
/-- The body's obligation on a device. -/
theorem body_obligation (c : Dev nD) : BodyObligation (dats (F := F) m 0 c) (defs₀ (F := F)) 𝒱₀ () Set.univ := fun t => by
  rw [Gen.fin_N0 t]
  rw [no_windows, no_windows]
  show iprop((start m c ∗ scratch c) ∗ (dats m 0 c).owesAt () Gen.t0_0.castSucc ∗ BI.emp)
    ⊢ WP c (Gen.bodyAt0 Gen.t0_0) (fun _ => iprop(stop m c ∗ (dats m 0 c).owesAt () Gen.t0_0.succ ∗ BI.emp))
  rw [show (Gen.bodyAt0 (F := F) Gen.t0_0) = shaped from body_eq_shaped]
  have hend : ∀ _ : PUnit, final m c ⊢ iprop(stop m c ∗ (dats m 0 c).owesAt () Gen.t0_0.succ ∗ BI.emp) := fun _ => by
    iintro H
    ihave H := (final_elim m c) $$ H
    icases H with ⟨H, HO⟩
    isplitl [H]; · iexact H
    isplitl [HO]; · iapply (owes_out m c); iexact HO
    iempintro
  refine BIBase.Entails.trans ?_ (wp_mono _ _ _ hend)
  iintro ⟨H, HO, -⟩
  ihave HO := (owes_in m c) $$ HO
  ihave H := (initial_intro m c) $$ [H HO]
  · isplitl [H]; · iexact H
    iexact HO
  icases H with ⟨%K, HR, H⟩
  iapply (body_run m K c)
  isplitl [HR]; · iexact HR
  iexact H

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, Gen.unscopedRest0_eq]
  iintro ⟨⟨H0, H1, H2⟩, Hlev, Hcr, -, HG⟩
  ihave Hc := (creds (F := F) c) $$ Hcr
  icases Hc with ⟨Hcb, Hct⟩
  unfold G' share
  icases HG with ⟨%K, HF, Hat, Hl, Hd⟩
  imodintro
  isplitl
  · unfold start arrays0
    iexists K
    isplitl [HF Hlev]
    · unfold facts records
      icases HF with ⟨Hi, Hr⟩
      isplitl [Hi]; · iexact Hi
      isplitl [Hr]; · iexact Hr
      iexact Hlev
    isplitl [Hat Hd Hcb Hct]
    · iapply (link_intro (F := F) c)
      isplitl [Hat]; · iexact Hat
      isplitl [Hd]; · iexact Hd
      isplitl [Hcb]; · iexact Hcb
      iexact Hct
    isplitl [H0 H1 H2]
    · isplitl [H0]; · iexact H0
      isplitl [H1]; · iexact H1
      iexists _; iexact H2
    iexact Hl
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, Gen.scopedRest0_eq]
  unfold scratch any
  iintro ⟨H, -, Hr⟩
  isplitl [H]; · iexact H
  iexact Hr

theorem phi_out (c : Dev nD) :
    (dats m 0 c).Φ (Fin.last cfg0.N) ⊢ iprop((unscopedSems0 c ∗ arrays1 m c) ∗ Pipeline.ownSems0 osem c ∗ Pipeline.scopedRest cfg0.spec c) := by
  rw [show (dats m 0 c).Φ (Fin.last cfg0.N) = stop m c from rfl, Gen.scopedRest0_eq, ownSems_eq, unscopedSems_eq]
  unfold stop scratch any
  iintro ⟨HA, Hs, Hl, Ht, Hb⟩
  isplitl [HA Hb]
  · isplitl [Hb]; · iexact Hb
    iexact HA
  isplitl [Hl Ht]
  · isplitl [Hl]; · iexact Hl
    iexact Ht
  iexact Hs

theorem waits_ok (c : Dev nD) : (levAts L lv : sProp 𝕄) ⊢ Pipeline.cellsWaits cfgs (dats m) () 0 c :=
  Pipeline.cellsWaits_intro cfgs (dats m) () 0 c fun w => w.elim0

/-! ## The run -/

def u₀ : UU := (initOf (Pipeline.cells cfgs Gen.cellOf_inj) (Pipeline.launchToks cfgs Gen.cellOf_inj), (initOf allCells allToks, 1))

def s₀ : MemSt nD τ sig (Elt F) := ⟨m, fun _ => 0, ρ⟩

/-- What the final memory holds on a device. -/
def Reads (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = OUT m c

set_option maxRecDepth 65536 in
/-- Every fair execution of the mesh ends, with each device's arguments unchanged, its result computed and its
semaphores at zero. -/
theorem run_main : θ_run Cert.KernelIdeal.defs (onTc (τ := τ) (Cert.KernelIdeal.main (F := F))) (s₀ m ρ)
    (fun r => (∀ c, Reads m c r.2) ∧ r.2.sem = fun _ => 0) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP (defs₀ (F := F)) 𝒱₀ m ρ (Cert.KernelIdeal.main (F := F))
    (hmain := fun _ => rfl)
    (hbody := body_obligation m) (hne := fun w => w.elim0) (harr := Gen.arr_whole0) (hstage := Gen.stage_whole0) (hshare := fun _ w => w.elim0)
    (hdistinct := Gen.winFacts0.arr_inj)
    (O₀ := O₀) (howed₀ := fun _ => rfl) (howedN := fun _ => rfl)
    (L := L) (lv := lv) (hL := L_of_ne) (hwaits := waits_ok m)
    (G := G m) (G' := G' m) (u₀ := u₀)
    (hu₀ := by
      unfold u₀
      iintro Hu
      ihave H := (ownU_pair _ _) $$ Hu
      icases H with ⟨HP, HX⟩
      imod (fund_all m) $$ [HX] with HG
      · iexact HX
      imodintro
      isplitl [HP] <;> iassumption)
    (hglob := glob m)
    (hA := fun _ w => w.elim0) (hpf := fun _ k => k.elim0)
    (X := start m) (Y := fun c => iprop(unscopedSems0 c ∗ arrays1 m c)) (Z := fun _ => iprop(emp))
    (hX := start_intro m ρ) (hin := phi_in m) (hout := phi_out m)
    (QY := fun c s => (∀ sm : SemLoc sig, sm.isScoped .tc = false → s.sem ((c.tc : Thread nD τ), sm) = 0) ∧ Reads m c s)
    (hY := fun c s' => by
      unfold arrays1
      iintro ⟨⟨Hu, H0, H1, H2⟩, -, HSI⟩
      icombine HSI H0 gives %h0
      icombine HSI H1 gives %h1
      icombine HSI H2 gives %h2
      imod (Pipeline.unscopedSems0_read (X := unscopedSems0 c) (c := c) fupd_intro s') $$ [Hu HSI] with ⟨%hs, HSI⟩
      · isplitl [Hu] <;> iassumption
      imodintro
      isplitr [HSI]; swap; · iexact HSI
      ipureintro
      exact ⟨hs, Buf.eq_of_forall_mem_univ h0, Buf.eq_of_forall_mem_univ h1, Buf.eq_of_forall_mem_univ h2⟩)
    (hQ := fun _ h hs => ⟨fun c => (h c).2.2.2, sem_eq_zero hs fun c => (h c).2.2.1⟩)

end Cert.KernelIdeal

end
-- ==== Proof.Value.lean ====
module

public import proofs.«01_k».proof.Proof.Tiles
public import proofs.«01_k».proof.Proof.Gen.ReferenceIdeal.Run
public import proofs.«01_k».proof.Defs
public import Idealize.ShloMosaic.Lib.MatmulPlain
public import Idealize.ShloMosaic.Lib.StackMember
public import Idealize.ShloMosaic.Lib.ValueLayout

/-! The value over the extended reals: each half of the mesh along x contributes the product over its half of the
columns, and the two halves add up to the reference's product. -/

@[expose] public section

noncomputable section

namespace Cert.KernelIdeal

open Idealize.ShloMosaic Idealize.ShloMosaic.TcCoe Idealize.ShloMosaic.ValueIdx
open scoped BigOperators

/-! ## The product over half of the columns -/

variable (D E : (⟨2, ![1024, 8192]⟩ : Shape).Idx → EReal)

/-- Column `k` of half `h`. -/
def wide (h : Fin 2) (k : Fin 4096) : Fin 8192 := ⟨4096 * h.val + k.val, by omega⟩
/-- The product of two rows over half `h` of the columns. -/
def part2 (h : Fin 2) (a b : Fin 1024) : EReal := ∑ k : Fin 4096, D (ix2 a (wide h k)) * E (ix2 b (wide h k))

/-- A sum over twice as many terms. -/
theorem sum_twice {n N : ℕ} (h : N = n + n) (f : Fin N → EReal) :
    ∑ k, f k = (∑ k : Fin n, f ⟨k.val, by omega⟩) + ∑ k : Fin n, f ⟨n + k.val, by omega⟩ := by
  subst h; exact Fin.sum_univ_add f

/-- The two halves add up to the product over all columns, in either order. -/
theorem parts (h : Fin 2) (a b : Fin 1024) : part2 D E h a b + part2 D E (1 - h) a b = ∑ k : Fin 8192, D (ix2 a k) * E (ix2 b k) := by
  have low : ∀ k : Fin 4096, wide 0 k = ⟨k.val, by omega⟩ := fun k => Fin.ext (show 4096 * 0 + k.val = k.val by omega)
  have split : ∀ f : Fin 8192 → EReal, (∑ k, f (wide 0 k)) + ∑ k, f (wide 1 k) = ∑ k, f k := fun f =>
    Eq.trans (congrArg₂ (· + ·) (Finset.sum_congr rfl fun k _ => congrArg f (low k))
      (Finset.sum_congr rfl fun _ _ => rfl)) (sum_twice (n := 4096) (by norm_num) f).symm
  have h0 : part2 D E 0 a b + part2 D E 1 a b = ∑ k : Fin 8192, D (ix2 a k) * E (ix2 b k) := split fun k => D (ix2 a k) * E (ix2 b k)
  match h with
  | 0 => exact h0
  | 1 => rw [add_comm]; exact h0

/-- The row and the column of an index of the result. -/
def rowOf (i : S1024x1024.Idx) : Fin 1024 := i 0
def colOf (i : S1024x1024.Idx) : Fin 1024 := i 1

/-! ## The device's product -/

variable (m : (ℓ : Loc nD τ sig) → Buf (Elt Ideal) ℓ)

/-- Which half of the columns a device holds. -/
def side (c : Dev nD) : Fin 2 := ⟨c.val / 16, by have : c.val < 32 := c.isLt; omega⟩
theorem side_xp : ∀ c, side (xp c) = 1 - side c := by decide +kernel
theorem side_yp : ∀ c, side (yp c) = side c := by decide +kernel
theorem side_zp : ∀ c, side (zp c) = side c := by decide +kernel

/-- Every device holds its half of the columns of both arrays. -/
def Holds : Prop := ∀ (c : Dev nD) (a : Fin 1024) (k : Fin 4096),
  dyB m c (ix2 a k) = D (ix2 a (wide (side c) k)) ∧ wB m c (ix2 a k) = E (ix2 a (wide (side c) k))

theorem emb_vals (q : Fin 4) (x : S256x4096.Idx) : (((wideR (rO q) (wIn q)).emb x) 0).val = 256 * q.val + (x 0).val
    ∧ (((wideR (rO q) (wIn q)).emb x) 1).val = 0 + (x 1).val := by
  have h0 : (((wideR (rO q) (wIn q)).emb x) 0).val = 256 * q.val + (x 0).val := ValueKit.rect_emb_unit_val (s := S1024x4096) (rO q) S256x4096.size (wIn q) x 0
  have h1 : (((wideR (rO q) (wIn q)).emb x) 1).val = 0 + (x 1).val := ValueKit.rect_emb_unit_val (s := S1024x4096) (rO q) S256x4096.size (wIn q) x 1
  exact ⟨h0, h1⟩
theorem emb_wide (q : Fin 4) (r : Fin 256) (k : Fin 4096) (a : Fin 1024) (ha : a.val = 256 * q.val + r.val) :
    (wideR (rO q) (wIn q)).emb (ix2 r k) = ix2 a k := by
  obtain ⟨h0, h1⟩ := emb_vals q (ix2 r k)
  funext x
  match x with
  | ⟨0, _⟩ => exact Fin.ext (h0.trans ha.symm)
  | ⟨1, _⟩ => exact Fin.ext (h1.trans (Nat.zero_add _))

theorem dyQ_apply (c : Dev nD) (q : Fin 4) (r : Fin 256) (k : Fin 4096) (a : Fin 1024) (ha : a.val = 256 * q.val + r.val) :
    dyQ m c q (ix2 r k) = dyB m c (ix2 a k) := by
  unfold dyQ Gen.k0_pay1; simp only [shapeCast_self]
  show dyB m c ((wideR (rO q) (wIn q)).emb (ix2 r k)) = _
  rw [emb_wide q r k a ha]
theorem wQ_apply (c : Dev nD) (q : Fin 4) (r : Fin 256) (k : Fin 4096) (a : Fin 1024) (ha : a.val = 256 * q.val + r.val) :
    wQ m c q (ix2 r k) = wB m c (ix2 a k) := by
  unfold wQ Gen.k0_pay2; simp only [shapeCast_self]
  show wB m c ((wideR (rO q) (wIn q)).emb (ix2 r k)) = _
  rw [emb_wide q r k a ha]

variable {D E m}

/-- One tile's product, at an index. -/
theorem tile_apply (H : Holds D E m) (c : Dev nD) (i : S1024x1024.Idx) :
    Gen.k0_pay3 (dyQ m c (rowQ i)) (wQ m c (colQ i)) (inTile i) = part2 D E (side c) (rowOf i) (colOf i) := by
  have hi : inTile i = ix2 (⟨(i 0).val % 256, Nat.mod_lt _ (by decide)⟩ : Fin 256) (⟨(i 1).val % 256, Nat.mod_lt _ (by decide)⟩ : Fin 256) := eq_ix2 _
  rw [hi]
  unfold Gen.k0_pay3
  have h := Ideal.matmul_transposedRhs_apply (φ₁ := .bf16) (φ₂ := .bf16) none (dyQ m c (rowQ i)) (wQ m c (colQ i)) (constant S256x256 .f32 0x00000000#32)
    (⟨(i 0).val % 256, Nat.mod_lt _ (by decide)⟩ : Fin 256) (⟨(i 1).val % 256, Nat.mod_lt _ (by decide)⟩ : Fin 256)
  refine Eq.trans h ?_
  rw [show (constant S256x256 .f32 0x00000000#32 : FVec Ideal S256x256 .f32) (ix2 (⟨(i 0).val % 256, Nat.mod_lt _ (by decide)⟩ : Fin 256) (⟨(i 1).val % 256, Nat.mod_lt _ (by decide)⟩ : Fin 256)) = 0 from Ideal.ofBits_zero_f32, zero_add]
  unfold part2
  refine Finset.sum_congr rfl fun k _ => ?_
  rw [dyQ_apply m c _ _ k (rowOf i) (Nat.div_add_mod _ _).symm, wQ_apply m c _ _ k (colOf i) (Nat.div_add_mod _ _).symm, (H c _ k).1, (H c _ k).2]

theorem PA_apply (H : Holds D E m) (c : Dev nD) (i : S1024x1024.Idx) : PA m c i = part2 D E (side c) (rowOf i) (colOf i) := by
  refine Eq.trans ?_ (tile_apply H c i)
  unfold PA glue Gen.k0_pay4; simp only [shapeCast_self]
theorem SB_apply (H : Holds D E m) (c : Dev nD) (i : S1024x1024.Idx) : SB m c i = part2 D E (side c) (rowOf i) (colOf i) := by
  refine Eq.trans ?_ (tile_apply H c i)
  unfold SB glue Gen.k0_pay5; simp only [shapeCast_self]; rfl

theorem RB_apply (H : Holds D E m) (c : Dev nD) (i : S1024x1024.Idx) : RB m c i = part2 D E (1 - side c) (rowOf i) (colOf i) := by
  unfold RB; split
  · rw [SB_apply H, side_xp, side_yp]
  · split
    · rw [SB_apply H, side_xp, side_zp]
    · rw [SB_apply H, side_xp]
theorem RL_apply (H : Holds D E m) (c : Dev nD) (i : S1024x1024.Idx) : RL m c i = part2 D E (side c) (rowOf i) (colOf i) := by
  unfold RL; split
  · rw [SB_apply H, side_yp]
  · rw [SB_apply H, side_zp]

/-- Every device ends with the whole product. -/
theorem OUT_apply (H : Holds D E m) (c : Dev nD) (i : S1024x1024.Idx) : OUT m c i = ∑ k : Fin 8192, D (ix2 (rowOf i) k) * E (ix2 (colOf i) k) := by
  rw [← parts D E (side c)]
  unfold OUT; split
  · show PA m c i + RB m c i = _
    rw [PA_apply H, RB_apply H]
  · show RL m c i + RB m c i = _
    rw [RL_apply H, RB_apply H]

/-! ## The reference -/

/-- The reference's product at an index. -/
theorem reference_apply (D E : (⟨2, ![1024, 8192]⟩ : Shape).Idx → EReal) (i : S1024x1024.Idx) :
    (Host.dotGeneral (F := Ideal) (φ₁ := .f32) (φ₂ := .f32) Cert.ReferenceIdeal.dot_S1024x8192_S8192x1024_S1024x1024_1_0_0_1_n_n none D
      (transpose Cert.ReferenceIdeal.S8192x1024 [1, 0] E Cert.ReferenceIdeal.Facts₀.transposes_S1024x8192_S8192x1024_1_0)) i
      = ∑ k : Fin 8192, D (ix2 (rowOf i) k) * E (ix2 (colOf i) k) := by
  rw [show i = ix2 (rowOf i) (colOf i) from eq_ix2 i]
  refine Eq.trans (StackMember.dotGeneral_plain_apply (φ₁ := .f32) (φ₂ := .f32) none D _ (rowOf i) (colOf i)) (Finset.sum_congr rfl fun k _ => ?_)
  rw [transpose_ix2_apply]; rfl

/-- The blocks the claim names are the halves. -/
theorem holds_of_blocks (h : ∀ c : Dev nD,
      m ((c : Thread nD τ).loc main_arg0) = Layout.blockN ⟨2, ![1024, 4096]⟩ ⟨2, ![1024, 8192]⟩ (Layout.meshBlock [2, 4, 4] ![[], [0]] c) D
      ∧ m ((c : Thread nD τ).loc main_arg1) = Layout.blockN ⟨2, ![1024, 4096]⟩ ⟨2, ![1024, 8192]⟩ (Layout.meshBlock [2, 4, 4] ![[], [0]] c) E) :
    Holds D E m := fun c a k => by
  have hlin : Layout.meshLin [2, 4, 4] c.val [0] = (side c).val := by revert c; decide +kernel
  have hx : ∀ hT : Layout.TilesN ⟨2, ![1024, 4096]⟩ ⟨2, ![1024, 8192]⟩ _,
      Layout.TilesN.idx hT (Layout.meshBlock [2, 4, 4] ![[], [0]] c) (ix2 a k) = ix2 a (wide (side c) k) := fun hT => by
    funext x; refine x.cases ?_ (fun x => x.cases ?_ (fun x => x.elim0))
    · exact Fin.ext (by rw [Layout.TilesN.idx_val]; show 0 * 1024 + a.val = a.val; omega)
    · exact Fin.ext (by
        rw [Layout.TilesN.idx_val]
        show Layout.meshLin [2, 4, 4] c.val [0] * 4096 + k.val = 4096 * (side c).val + k.val
        rw [hlin, Nat.mul_comm])
  constructor
  · unfold dyB; rw [(h c).1, Layout.blockN_apply, hx]
  · unfold wB; rw [(h c).2, Layout.blockN_apply, hx]

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments as they were, and ends with every counter at zero. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.run_main (F := Bits) m ρ)

/-- The same over exact values. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.run_main (F := Ideal) m ρ)

/-- The reference runs and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's product. -/
theorem algebraic : Cert.algebraic_KernelIdeal_ReferenceIdeal := fun m ρ m' ρ' _ hagree =>
  ⟨_, (θ_run Cert.KernelIdeal.defs _ _).mono (fun _ h c =>
      ⟨(h.1 c).2.2.trans (funext fun i => (Cert.KernelIdeal.OUT_apply (Cert.KernelIdeal.holds_of_blocks hagree) c i).trans
          (Cert.KernelIdeal.reference_apply _ _ i).symm), (h.1 c).1, (h.1 c).2.1⟩) (Cert.KernelIdeal.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
